-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_MergeRoute (m : (ℓ : Loc Cert.MergeRoute.nD Cert.MergeRoute.τ Cert.MergeRoute.sig) → Buf (Elt Bits) ℓ) : Prop :=
  True

def Pre_MergeRouteIdeal (m : (ℓ : Loc Cert.MergeRouteIdeal.nD Cert.MergeRouteIdeal.τ Cert.MergeRouteIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_MergeRoute [hMergeRoute : Cert.MergeRoute.Facts] : Prop :=
  ∀ (m : (ℓ : Loc Cert.MergeRoute.nD Cert.MergeRoute.τ Cert.MergeRoute.sig) → Buf (Elt Bits) ℓ) (g : Dev Cert.MergeRoute.nD → PrngReg), Pre_MergeRoute m →
    θ_run (Cert.MergeRoute.defs (F := Bits)) (onTc (τ := Cert.MergeRoute.τ) (Cert.MergeRoute.main (F := Bits))) ⟨m, fun _ => 0, g⟩ (fun r => (∀ c : Dev Cert.MergeRoute.nD,
      r.2.mem ((c.tc : Thread Cert.MergeRoute.nD Cert.MergeRoute.τ).loc Cert.MergeRoute.main_arg0) = m ((c.tc : Thread Cert.MergeRoute.nD Cert.MergeRoute.τ).loc Cert.MergeRoute.main_arg0)
      ∧ r.2.mem ((c.tc : Thread Cert.MergeRoute.nD Cert.MergeRoute.τ).loc Cert.MergeRoute.main_arg1) = m ((c.tc : Thread Cert.MergeRoute.nD Cert.MergeRoute.τ).loc Cert.MergeRoute.main_arg1)
      ∧ r.2.mem ((c.tc : Thread Cert.MergeRoute.nD Cert.MergeRoute.τ).loc Cert.MergeRoute.main_arg2) = m ((c.tc : Thread Cert.MergeRoute.nD Cert.MergeRoute.τ).loc Cert.MergeRoute.main_arg2)
      ∧ r.2.mem ((c.tc : Thread Cert.MergeRoute.nD Cert.MergeRoute.τ).loc Cert.MergeRoute.main_arg3) = m ((c.tc : Thread Cert.MergeRoute.nD Cert.MergeRoute.τ).loc Cert.MergeRoute.main_arg3)
      ∧ r.2.mem ((c.tc : Thread Cert.MergeRoute.nD Cert.MergeRoute.τ).loc Cert.MergeRoute.main_arg4) = m ((c.tc : Thread Cert.MergeRoute.nD Cert.MergeRoute.τ).loc Cert.MergeRoute.main_arg4)
      ∧ r.2.mem ((c.tc : Thread Cert.MergeRoute.nD Cert.MergeRoute.τ).loc Cert.MergeRoute.main_arg5) = m ((c.tc : Thread Cert.MergeRoute.nD Cert.MergeRoute.τ).loc Cert.MergeRoute.main_arg5)
      ∧ r.2.mem ((c.tc : Thread Cert.MergeRoute.nD Cert.MergeRoute.τ).loc Cert.MergeRoute.main_arg6) = m ((c.tc : Thread Cert.MergeRoute.nD Cert.MergeRoute.τ).loc Cert.MergeRoute.main_arg6)
      ∧ r.2.mem ((c.tc : Thread Cert.MergeRoute.nD Cert.MergeRoute.τ).loc Cert.MergeRoute.main_arg7) = m ((c.tc : Thread Cert.MergeRoute.nD Cert.MergeRoute.τ).loc Cert.MergeRoute.main_arg7)
      ∧ r.2.mem ((c.tc : Thread Cert.MergeRoute.nD Cert.MergeRoute.τ).loc Cert.MergeRoute.main_arg8) = m ((c.tc : Thread Cert.MergeRoute.nD Cert.MergeRoute.τ).loc Cert.MergeRoute.main_arg8))
      ∧ r.2.sem = fun _ => 0)

def quiescent_MergeRouteIdeal [hMergeRouteIdeal : Cert.MergeRouteIdeal.Facts] : Prop :=
  ∀ (m : (ℓ : Loc Cert.MergeRouteIdeal.nD Cert.MergeRouteIdeal.τ Cert.MergeRouteIdeal.sig) → Buf (Elt Ideal) ℓ) (g : Dev Cert.MergeRouteIdeal.nD → PrngReg), Pre_MergeRouteIdeal m →
    θ_run (Cert.MergeRouteIdeal.defs (F := Ideal)) (onTc (τ := Cert.MergeRouteIdeal.τ) (Cert.MergeRouteIdeal.main (F := Ideal))) ⟨m, fun _ => 0, g⟩ (fun r => (∀ c : Dev Cert.MergeRouteIdeal.nD,
      r.2.mem ((c.tc : Thread Cert.MergeRouteIdeal.nD Cert.MergeRouteIdeal.τ).loc Cert.MergeRouteIdeal.main_arg0) = m ((c.tc : Thread Cert.MergeRouteIdeal.nD Cert.MergeRouteIdeal.τ).loc Cert.MergeRouteIdeal.main_arg0)
      ∧ r.2.mem ((c.tc : Thread Cert.MergeRouteIdeal.nD Cert.MergeRouteIdeal.τ).loc Cert.MergeRouteIdeal.main_arg1) = m ((c.tc : Thread Cert.MergeRouteIdeal.nD Cert.MergeRouteIdeal.τ).loc Cert.MergeRouteIdeal.main_arg1)
      ∧ r.2.mem ((c.tc : Thread Cert.MergeRouteIdeal.nD Cert.MergeRouteIdeal.τ).loc Cert.MergeRouteIdeal.main_arg2) = m ((c.tc : Thread Cert.MergeRouteIdeal.nD Cert.MergeRouteIdeal.τ).loc Cert.MergeRouteIdeal.main_arg2)
      ∧ r.2.mem ((c.tc : Thread Cert.MergeRouteIdeal.nD Cert.MergeRouteIdeal.τ).loc Cert.MergeRouteIdeal.main_arg3) = m ((c.tc : Thread Cert.MergeRouteIdeal.nD Cert.MergeRouteIdeal.τ).loc Cert.MergeRouteIdeal.main_arg3)
      ∧ r.2.mem ((c.tc : Thread Cert.MergeRouteIdeal.nD Cert.MergeRouteIdeal.τ).loc Cert.MergeRouteIdeal.main_arg4) = m ((c.tc : Thread Cert.MergeRouteIdeal.nD Cert.MergeRouteIdeal.τ).loc Cert.MergeRouteIdeal.main_arg4)
      ∧ r.2.mem ((c.tc : Thread Cert.MergeRouteIdeal.nD Cert.MergeRouteIdeal.τ).loc Cert.MergeRouteIdeal.main_arg5) = m ((c.tc : Thread Cert.MergeRouteIdeal.nD Cert.MergeRouteIdeal.τ).loc Cert.MergeRouteIdeal.main_arg5)
      ∧ r.2.mem ((c.tc : Thread Cert.MergeRouteIdeal.nD Cert.MergeRouteIdeal.τ).loc Cert.MergeRouteIdeal.main_arg6) = m ((c.tc : Thread Cert.MergeRouteIdeal.nD Cert.MergeRouteIdeal.τ).loc Cert.MergeRouteIdeal.main_arg6)
      ∧ r.2.mem ((c.tc : Thread Cert.MergeRouteIdeal.nD Cert.MergeRouteIdeal.τ).loc Cert.MergeRouteIdeal.main_arg7) = m ((c.tc : Thread Cert.MergeRouteIdeal.nD Cert.MergeRouteIdeal.τ).loc Cert.MergeRouteIdeal.main_arg7)
      ∧ r.2.mem ((c.tc : Thread Cert.MergeRouteIdeal.nD Cert.MergeRouteIdeal.τ).loc Cert.MergeRouteIdeal.main_arg8) = m ((c.tc : Thread Cert.MergeRouteIdeal.nD Cert.MergeRouteIdeal.τ).loc Cert.MergeRouteIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def preserves_InProj_InProjIdeal : Prop :=
  True

def algebraic_InProjIdeal_ReferenceIdeal [hInProjIdeal : Cert.InProjIdeal.Facts] [hReferenceIdeal : Cert.ReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_InProjIdeal m →
    (∀ c : Dev Cert.InProjIdeal.nD,
      m' ((c.tc : Thread Cert.ReferenceIdeal.nD Cert.ReferenceIdeal.τ).loc Cert.ReferenceIdeal.main_arg0) = m ((c.tc : Thread Cert.InProjIdeal.nD Cert.InProjIdeal.τ).loc Cert.InProjIdeal.main_arg0)
      ∧ m' ((c.tc : Thread Cert.ReferenceIdeal.nD Cert.ReferenceIdeal.τ).loc Cert.ReferenceIdeal.main_arg1) = m ((c.tc : Thread Cert.InProjIdeal.nD Cert.InProjIdeal.τ).loc Cert.InProjIdeal.main_arg1)
      ∧ m' ((c.tc : Thread Cert.ReferenceIdeal.nD Cert.ReferenceIdeal.τ).loc Cert.ReferenceIdeal.main_arg2) = m ((c.tc : Thread Cert.InProjIdeal.nD Cert.InProjIdeal.τ).loc Cert.InProjIdeal.main_arg2)
      ∧ m' ((c.tc : Thread Cert.ReferenceIdeal.nD Cert.ReferenceIdeal.τ).loc Cert.ReferenceIdeal.main_arg3) = m ((c.tc : Thread Cert.InProjIdeal.nD Cert.InProjIdeal.τ).loc Cert.InProjIdeal.main_arg3)
      ∧ m' ((c.tc : Thread Cert.ReferenceIdeal.nD Cert.ReferenceIdeal.τ).loc Cert.ReferenceIdeal.main_arg4) = m ((c.tc : Thread Cert.InProjIdeal.nD Cert.InProjIdeal.τ).loc Cert.InProjIdeal.main_arg4)
      ∧ m' ((c.tc : Thread Cert.ReferenceIdeal.nD Cert.ReferenceIdeal.τ).loc Cert.ReferenceIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel_KernelIdeal : Prop :=
  True

def preserves_MergeRoute_MergeRouteIdeal : Prop :=
  IdealRules.bf16_pair.BufferStatement Cert.MergeRouteIdeal.S4096x2x512 Cert.MergeRouteIdeal.S4096x1x512
  ∧ IdealRules.bf16_pair.BufferStatement Cert.MergeRouteIdeal.S256x2x512 Cert.MergeRouteIdeal.S256x1x512
  ∧ IdealRules.bf16_pair.Statement Cert.MergeRouteIdeal.S256x2x512 Cert.MergeRouteIdeal.S256x1x512
  ∧ IdealRules.bf16_pack.Statement Cert.MergeRouteIdeal.S256x512

def algebraic_MergeRouteIdeal_MergeReferenceIdeal [hMergeRouteIdeal : Cert.MergeRouteIdeal.Facts] [hMergeReferenceIdeal : Cert.MergeReferenceIdeal.Facts] : Prop :=
  ∀ (m : (ℓ : Loc Cert.MergeRouteIdeal.nD Cert.MergeRouteIdeal.τ Cert.MergeRouteIdeal.sig) → Buf (Elt Ideal) ℓ) (g : Dev Cert.MergeRouteIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeRouteIdeal m →
    (∀ c : Dev Cert.MergeRouteIdeal.nD,
      m' ((c.tc : Thread Cert.MergeReferenceIdeal.nD Cert.MergeReferenceIdeal.τ).loc Cert.MergeReferenceIdeal.main_arg0) = m ((c.tc : Thread Cert.MergeRouteIdeal.nD Cert.MergeRouteIdeal.τ).loc Cert.MergeRouteIdeal.main_arg0)
      ∧ m' ((c.tc : Thread Cert.MergeReferenceIdeal.nD Cert.MergeReferenceIdeal.τ).loc Cert.MergeReferenceIdeal.main_arg1) = m ((c.tc : Thread Cert.MergeRouteIdeal.nD Cert.MergeRouteIdeal.τ).loc Cert.MergeRouteIdeal.main_arg1)
      ∧ m' ((c.tc : Thread Cert.MergeReferenceIdeal.nD Cert.MergeReferenceIdeal.τ).loc Cert.MergeReferenceIdeal.main_arg2) = m ((c.tc : Thread Cert.MergeRouteIdeal.nD Cert.MergeRouteIdeal.τ).loc Cert.MergeRouteIdeal.main_arg2)
      ∧ m' ((c.tc : Thread Cert.MergeReferenceIdeal.nD Cert.MergeReferenceIdeal.τ).loc Cert.MergeReferenceIdeal.main_arg3) = m ((c.tc : Thread Cert.MergeRouteIdeal.nD Cert.MergeRouteIdeal.τ).loc Cert.MergeRouteIdeal.main_arg3)
      ∧ m' ((c.tc : Thread Cert.MergeReferenceIdeal.nD Cert.MergeReferenceIdeal.τ).loc Cert.MergeReferenceIdeal.main_arg4) = m ((c.tc : Thread Cert.MergeRouteIdeal.nD Cert.MergeRouteIdeal.τ).loc Cert.MergeRouteIdeal.main_arg4)
      ∧ m' ((c.tc : Thread Cert.MergeReferenceIdeal.nD Cert.MergeReferenceIdeal.τ).loc Cert.MergeReferenceIdeal.main_arg5) = m ((c.tc : Thread Cert.MergeRouteIdeal.nD Cert.MergeRouteIdeal.τ).loc Cert.MergeRouteIdeal.main_arg5)
      ∧ m' ((c.tc : Thread Cert.MergeReferenceIdeal.nD Cert.MergeReferenceIdeal.τ).loc Cert.MergeReferenceIdeal.main_arg6) = m ((c.tc : Thread Cert.MergeRouteIdeal.nD Cert.MergeRouteIdeal.τ).loc Cert.MergeRouteIdeal.main_arg6)
      ∧ m' ((c.tc : Thread Cert.MergeReferenceIdeal.nD Cert.MergeReferenceIdeal.τ).loc Cert.MergeReferenceIdeal.main_arg7) = m ((c.tc : Thread Cert.MergeRouteIdeal.nD Cert.MergeRouteIdeal.τ).loc Cert.MergeRouteIdeal.main_arg7)
      ∧ m' ((c.tc : Thread Cert.MergeReferenceIdeal.nD Cert.MergeReferenceIdeal.τ).loc Cert.MergeReferenceIdeal.main_arg8) = m ((c.tc : Thread Cert.MergeRouteIdeal.nD Cert.MergeRouteIdeal.τ).loc Cert.MergeRouteIdeal.main_arg8)) →
    ∃ (v0 : (c : Dev Cert.MergeRouteIdeal.nD) → Buf (Elt Ideal) ((c.tc : Thread Cert.MergeRouteIdeal.nD Cert.MergeRouteIdeal.τ).loc Cert.MergeRouteIdeal.main_v8_0)),
      θ_run (Cert.MergeRouteIdeal.defs (F := Ideal)) (onTc (τ := Cert.MergeRouteIdeal.τ) (Cert.MergeRouteIdeal.main (F := Ideal))) ⟨m, fun _ => 0, g⟩ (fun r => ∀ c : Dev Cert.MergeRouteIdeal.nD,
          r.2.mem ((c.tc : Thread Cert.MergeRouteIdeal.nD Cert.MergeRouteIdeal.τ).loc Cert.MergeRouteIdeal.main_v8_0) = v0 c
          ∧ r.2.mem ((c.tc : Thread Cert.MergeRouteIdeal.nD Cert.MergeRouteIdeal.τ).loc Cert.MergeRouteIdeal.main_arg0) = m ((c.tc : Thread Cert.MergeRouteIdeal.nD Cert.MergeRouteIdeal.τ).loc Cert.MergeRouteIdeal.main_arg0)
          ∧ r.2.mem ((c.tc : Thread Cert.MergeRouteIdeal.nD Cert.MergeRouteIdeal.τ).loc Cert.MergeRouteIdeal.main_arg1) = m ((c.tc : Thread Cert.MergeRouteIdeal.nD Cert.MergeRouteIdeal.τ).loc Cert.MergeRouteIdeal.main_arg1)
          ∧ r.2.mem ((c.tc : Thread Cert.MergeRouteIdeal.nD Cert.MergeRouteIdeal.τ).loc Cert.MergeRouteIdeal.main_arg2) = m ((c.tc : Thread Cert.MergeRouteIdeal.nD Cert.MergeRouteIdeal.τ).loc Cert.MergeRouteIdeal.main_arg2)
          ∧ r.2.mem ((c.tc : Thread Cert.MergeRouteIdeal.nD Cert.MergeRouteIdeal.τ).loc Cert.MergeRouteIdeal.main_arg3) = m ((c.tc : Thread Cert.MergeRouteIdeal.nD Cert.MergeRouteIdeal.τ).loc Cert.MergeRouteIdeal.main_arg3)
          ∧ r.2.mem ((c.tc : Thread Cert.MergeRouteIdeal.nD Cert.MergeRouteIdeal.τ).loc Cert.MergeRouteIdeal.main_arg4) = m ((c.tc : Thread Cert.MergeRouteIdeal.nD Cert.MergeRouteIdeal.τ).loc Cert.MergeRouteIdeal.main_arg4)
          ∧ r.2.mem ((c.tc : Thread Cert.MergeRouteIdeal.nD Cert.MergeRouteIdeal.τ).loc Cert.MergeRouteIdeal.main_arg5) = m ((c.tc : Thread Cert.MergeRouteIdeal.nD Cert.MergeRouteIdeal.τ).loc Cert.MergeRouteIdeal.main_arg5)
          ∧ r.2.mem ((c.tc : Thread Cert.MergeRouteIdeal.nD Cert.MergeRouteIdeal.τ).loc Cert.MergeRouteIdeal.main_arg6) = m ((c.tc : Thread Cert.MergeRouteIdeal.nD Cert.MergeRouteIdeal.τ).loc Cert.MergeRouteIdeal.main_arg6)
          ∧ r.2.mem ((c.tc : Thread Cert.MergeRouteIdeal.nD Cert.MergeRouteIdeal.τ).loc Cert.MergeRouteIdeal.main_arg7) = m ((c.tc : Thread Cert.MergeRouteIdeal.nD Cert.MergeRouteIdeal.τ).loc Cert.MergeRouteIdeal.main_arg7)
          ∧ r.2.mem ((c.tc : Thread Cert.MergeRouteIdeal.nD Cert.MergeRouteIdeal.τ).loc Cert.MergeRouteIdeal.main_arg8) = m ((c.tc : Thread Cert.MergeRouteIdeal.nD Cert.MergeRouteIdeal.τ).loc Cert.MergeRouteIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v19) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_FinalNorm_FinalNormIdeal : Prop :=
  True

def algebraic_FinalNormIdeal_FinalReferenceIdeal [hFinalNormIdeal : Cert.FinalNormIdeal.Facts] [hFinalReferenceIdeal : Cert.FinalReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalNormIdeal m →
    (∀ c : Dev Cert.FinalNormIdeal.nD,
      m' ((c.tc : Thread Cert.FinalReferenceIdeal.nD Cert.FinalReferenceIdeal.τ).loc Cert.FinalReferenceIdeal.main_arg0) = m ((c.tc : Thread Cert.FinalNormIdeal.nD Cert.FinalNormIdeal.τ).loc Cert.FinalNormIdeal.main_arg0)
      ∧ m' ((c.tc : Thread Cert.FinalReferenceIdeal.nD Cert.FinalReferenceIdeal.τ).loc Cert.FinalReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v12) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def Claim : Prop :=
  ∃ (hInProj : Cert.InProj.Facts) (hInProjIdeal : Cert.InProjIdeal.Facts) (hReferenceIdeal : Cert.ReferenceIdeal.Facts) (hKernel : Cert.Kernel.Facts) (hKernelIdeal : Cert.KernelIdeal.Facts) (hMergeRoute : Cert.MergeRoute.Facts) (hMergeRouteIdeal : Cert.MergeRouteIdeal.Facts) (hMergeReferenceIdeal : Cert.MergeReferenceIdeal.Facts) (hFinalNorm : Cert.FinalNorm.Facts) (hFinalNormIdeal : Cert.FinalNormIdeal.Facts) (hFinalReferenceIdeal : Cert.FinalReferenceIdeal.Facts),
    quiescent_InProj (hInProj := hInProj)
    ∧ quiescent_InProjIdeal (hInProjIdeal := hInProjIdeal)
    ∧ quiescent_ReferenceIdeal (hReferenceIdeal := hReferenceIdeal)
    ∧ quiescent_Kernel (hKernel := hKernel)
    ∧ quiescent_KernelIdeal (hKernelIdeal := hKernelIdeal)
    ∧ quiescent_MergeRoute (hMergeRoute := hMergeRoute)
    ∧ quiescent_MergeRouteIdeal (hMergeRouteIdeal := hMergeRouteIdeal)
    ∧ quiescent_MergeReferenceIdeal (hMergeReferenceIdeal := hMergeReferenceIdeal)
    ∧ quiescent_FinalNorm (hFinalNorm := hFinalNorm)
    ∧ quiescent_FinalNormIdeal (hFinalNormIdeal := hFinalNormIdeal)
    ∧ quiescent_FinalReferenceIdeal (hFinalReferenceIdeal := hFinalReferenceIdeal)
    ∧ preserves_InProj_InProjIdeal
    ∧ algebraic_InProjIdeal_ReferenceIdeal (hInProjIdeal := hInProjIdeal) (hReferenceIdeal := hReferenceIdeal)
    ∧ preserves_Kernel_KernelIdeal
    ∧ preserves_MergeRoute_MergeRouteIdeal
    ∧ algebraic_MergeRouteIdeal_MergeReferenceIdeal (hMergeRouteIdeal := hMergeRouteIdeal) (hMergeReferenceIdeal := hMergeReferenceIdeal)
    ∧ preserves_FinalNorm_FinalNormIdeal
    ∧ algebraic_FinalNormIdeal_FinalReferenceIdeal (hFinalNormIdeal := hFinalNormIdeal) (hFinalReferenceIdeal := hFinalReferenceIdeal)
-- ==== InProj.lean ====
abbrev S2x2048x1024 : Shape := ⟨3, ![2, 2048, 1024]⟩
abbrev S1024 : Shape := ⟨1, ![1024]⟩
abbrev S1024x6144 : Shape := ⟨2, ![1024, 6144]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S5x2x2048x1024 : Shape := ⟨4, ![5, 2, 2048, 1024]⟩
abbrev S1x2048x1024 : Shape := ⟨3, ![1, 2048, 1024]⟩
abbrev S1024x1024 : Shape := ⟨2, ![1024, 1024]⟩
abbrev S1x1x2048x1024 : Shape := ⟨4, ![1, 1, 2048, 1024]⟩
abbrev S2048x1024 : Shape := ⟨2, ![2048, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S1x1x128x128 : Shape := ⟨4, ![1, 1, 128, 128]⟩
abbrev S1x1x128x1024 : Shape := ⟨4, ![1, 1, 128, 1024]⟩

abbrev nBuf : Space → Nat
  | .hbm => 12
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x6144, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x6144, .bf16⟩
  | .hbm, ⟨7, _⟩ => ⟨S8x128x128, .bf16⟩
  | .hbm, ⟨8, _⟩ => ⟨S1x1024, .f32⟩
  | .hbm, ⟨9, _⟩ => ⟨S1x1024, .f32⟩
  | .hbm, ⟨10, _⟩ => ⟨S128x8, .f32⟩
  | .hbm, ⟨11, _⟩ => ⟨S5x2x2048x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S8x128x128, .bf16⟩
  | .local _ .vmem, ⟨7, _⟩ => ⟨S128x8, .f32⟩
  | .local _ .vmem, ⟨8, _⟩ => ⟨S1x1x2048x1024, .bf16⟩
  | .local _ .vmem, ⟨9, _⟩ => ⟨S1x1x2048x1024, .bf16⟩
  | .local _ .vmem, ⟨10, _⟩ => ⟨S2048x1024, .bf16⟩
  | .local _ .vmem, ⟨11, _⟩ => ⟨S2048x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c16_i32 : BitVec 32 := 16#32
  let v12 : BitVec 32 := Scalar.addi c0_i32_4 c16_i32
  let c1_i32_5 : BitVec 32 := 1#32
  ⟨c0_i32_4, v12, c1_i32_5⟩
def k0_mult1 (k0_t1 : Fin k0_t1_loop.trips) : BitVec 32 :=
  let c0_i32_4 : BitVec 32 := 0#32
  let c1_i32_5 : BitVec 32 := 1#32
  let arg11 : BitVec 32 := Scf.iv c0_i32_4 c1_i32_5 k0_t1
  let c128_i32 : BitVec 32 := 128#32
  let v14 : BitVec 32 := Scalar.muli arg11 c128_i32
  v14
def k0_off1 (k0_t1 : Fin k0_t1_loop.trips) : Fin 3 → Nat :=
  let c0 : Index := 0#32
  let c0_i32_4 : BitVec 32 := 0#32
  let c1_i32_5 : BitVec 32 := 1#32
  let arg11 : BitVec 32 := Scf.iv c0_i32_4 c1_i32_5 k0_t1
  let c128_i32 : BitVec 32 := 128#32
  let v14 : BitVec 32 := Scalar.muli arg11 c128_i32
  let v15 : BitVec 32 := v14
  let v16 : Index := Scalar.indexCast v15
  let c0_11 : Index := 0#32
  ![0, v16.toNat, 0]
def k0_mult2 (k0_t1 : Fin k0_t1_loop.trips) : BitVec 32 :=
  let c0_i32_4 : BitVec 32 := 0#32
  let c1_i32_5 : BitVec 32 := 1#32
  let arg11 : BitVec 32 := Scf.iv c0_i32_4 c1_i32_5 k0_t1
  let c128_i32_16 : BitVec 32 := 128#32
  let v34 : BitVec 32 := Scalar.muli arg11 c128_i32_16
  v34
def k0_off2 (k0_t1 : Fin k0_t1_loop.trips) : Fin 2 → Nat :=
  let c0_i32_4 : BitVec 32 := 0#32
  let c1_i32_5 : BitVec 32 := 1#32
  let arg11 : BitVec 32 := Scf.iv c0_i32_4 c1_i32_5 k0_t1
  let c128_i32_16 : BitVec 32 := 128#32
  let v34 : BitVec 32 := Scalar.muli arg11 c128_i32_16
  let v35 : BitVec 32 := v34
  let v36 : Index := Scalar.indexCast v35
  let c0_17 : Index := 0#32
  ![v36.toNat, 0]
@[reducible] def k0_t2_loop : Scf.Loop 32 :=
  let c0_i32_7 : BitVec 32 := 0#32
  let c16_i32_8 : BitVec 32 := 16#32
  let v13 : BitVec 32 := Scalar.addi c0_i32_7 c16_i32_8
  let c1_i32_9 : BitVec 32 := 1#32
  ⟨c0_i32_7, v13, c1_i32_9⟩
def k0_mult3 (k0_t2 : Fin k0_t2_loop.trips) : BitVec 32 :=
  let c0_i32_7 : BitVec 32 := 0#32
  let c1_i32_9 : BitVec 32 := 1#32
  let arg11 : BitVec 32 := Scf.iv c0_i32_7 c1_i32_9 k0_t2
  let c128_i32 : BitVec 32 := 128#32
  let v14 : BitVec 32 := Scalar.muli arg11 c128_i32
  v14
def k0_off3 (k0_t2 : Fin k0_t2_loop.trips) : Fin 2 → Nat :=
  let c0_i32_7 : BitVec 32 := 0#32
  let c1_i32_9 : BitVec 32 := 1#32
  let arg11 : BitVec 32 := Scf.iv c0_i32_7 c1_i32_9 k0_t2
  let c128_i32 : BitVec 32 := 128#32
  let v14 : BitVec 32 := Scalar.muli arg11 c128_i32
  let v15 : BitVec 32 := v14
  let v16 : Index := Scalar.indexCast v15
  let c0 : Index := 0#32
  ![v16.toNat, 0]
def k0_mult4 (k0_t2 : Fin k0_t2_loop.trips) : BitVec 32 :=
  let c0_i32_7 : BitVec 32 := 0#32
  let c1_i32_9 : BitVec 32 := 1#32
  let arg11 : BitVec 32 := Scf.iv c0_i32_7 c1_i32_9 k0_t2
  let c128_i32_17 : BitVec 32 := 128#32
  let v35 : BitVec 32 := Scalar.muli arg11 c128_i32_17
  v35
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

@[reducible] def k0_t3_loop : Scf.Loop 32 :=
  let c0_i32_4 : BitVec 32 := 0#32
  let c16_i32 : BitVec 32 := 16#32
  let v12 : BitVec 32 := Scalar.addi c0_i32_4 c16_i32
  let c1_i32_5 : BitVec 32 := 1#32
  ⟨c0_i32_4, v12, c1_i32_5⟩
def k0_mult5 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32 : BitVec 32 := 128#32
  let v13 : BitVec 32 := Scalar.muli arg11 c128_i32
  v13
def k0_off4 (k0_t3 : Fin k0_t3_loop.trips) : Fin 2 → Nat :=
  let c0_i32_4 : BitVec 32 := 0#32
  let c1_i32_5 : BitVec 32 := 1#32
  let arg11 : BitVec 32 := Scf.iv c0_i32_4 c1_i32_5 k0_t3
  let c128_i32 : BitVec 32 := 128#32
  let v13 : BitVec 32 := Scalar.muli arg11 c128_i32
  let v14 : BitVec 32 := v13
  let v15 : Index := Scalar.indexCast v14
  let c0 : Index := 0#32
  ![v15.toNat, 0]
def k0_mult6 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32_18 : BitVec 32 := 128#32
  let v48 : BitVec 32 := Scalar.muli arg11 c128_i32_18
  v48
def k0_mult7 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32_26 : BitVec 32 := 128#32
  let v64 : BitVec 32 := Scalar.muli arg11 c128_i32_26
  v64
def k0_off5 (k0_t3 : Fin k0_t3_loop.trips) : Fin 4 → Nat :=
  let c0_27 : Index := 0#32
  let c0_28 : Index := 0#32
  let c0_i32_4 : BitVec 32 := 0#32
  let c1_i32_5 : BitVec 32 := 1#32
  let arg11 : BitVec 32 := Scf.iv c0_i32_4 c1_i32_5 k0_t3
  let c128_i32_26 : BitVec 32 := 128#32
  let v64 : BitVec 32 := Scalar.muli arg11 c128_i32_26
  let v65 : BitVec 32 := v64
  let v66 : Index := Scalar.indexCast v65
  let c0_29 : Index := 0#32
  ![0, 0, v66.toNat, 0]
def k0_mult8 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32_35 : BitVec 32 := 128#32
  let v82 : BitVec 32 := Scalar.muli arg11 c128_i32_35
  v82
def k0_off6 (k0_t3 : Fin k0_t3_loop.trips) : Fin 4 → Nat :=
  let c0_36 : Index := 0#32
  let c0_37 : Index := 0#32
  let c0_i32_4 : BitVec 32 := 0#32
  let c1_i32_5 : BitVec 32 := 1#32
  let arg11 : BitVec 32 := Scf.iv c0_i32_4 c1_i32_5 k0_t3
  let c128_i32_35 : BitVec 32 := 128#32
  let v82 : BitVec 32 := Scalar.muli arg11 c128_i32_35
  let v83 : BitVec 32 := v82
  let v84 : Index := Scalar.indexCast v83
  let c128 : Index := 128#32
  ![0, 0, v84.toNat, 128]
def k0_mult9 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32_43 : BitVec 32 := 128#32
  let v100 : BitVec 32 := Scalar.muli arg11 c128_i32_43
  v100
def k0_off7 (k0_t3 : Fin k0_t3_loop.trips) : Fin 4 → Nat :=
  let c0_44 : Index := 0#32
  let c0_45 : Index := 0#32
  let c0_i32_4 : BitVec 32 := 0#32
  let c1_i32_5 : BitVec 32 := 1#32
  let arg11 : BitVec 32 := Scf.iv c0_i32_4 c1_i32_5 k0_t3
  let c128_i32_43 : BitVec 32 := 128#32
  let v100 : BitVec 32 := Scalar.muli arg11 c128_i32_43
  let v101 : BitVec 32 := v100
  let v102 : Index := Scalar.indexCast v101
  let c256 : Index := 256#32
  ![0, 0, v102.toNat, 256]
def k0_mult10 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32_51 : BitVec 32 := 128#32
  let v118 : BitVec 32 := Scalar.muli arg11 c128_i32_51
  v118
def k0_off8 (k0_t3 : Fin k0_t3_loop.trips) : Fin 4 → Nat :=
  let c0_52 : Index := 0#32
  let c0_53 : Index := 0#32
  let c0_i32_4 : BitVec 32 := 0#32
  let c1_i32_5 : BitVec 32 := 1#32
  let arg11 : BitVec 32 := Scf.iv c0_i32_4 c1_i32_5 k0_t3
  let c128_i32_51 : BitVec 32 := 128#32
  let v118 : BitVec 32 := Scalar.muli arg11 c128_i32_51
  let v119 : BitVec 32 := v118
  let v120 : Index := Scalar.indexCast v119
  let c384 : Index := 384#32
  ![0, 0, v120.toNat, 384]
def k0_mult11 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32_59 : BitVec 32 := 128#32
  let v136 : BitVec 32 := Scalar.muli arg11 c128_i32_59
  v136
def k0_off9 (k0_t3 : Fin k0_t3_loop.trips) : Fin 4 → Nat :=
  let c0_60 : Index := 0#32
  let c0_61 : Index := 0#32
  let c0_i32_4 : BitVec 32 := 0#32
  let c1_i32_5 : BitVec 32 := 1#32
  let arg11 : BitVec 32 := Scf.iv c0_i32_4 c1_i32_5 k0_t3
  let c128_i32_59 : BitVec 32 := 128#32
  let v136 : BitVec 32 := Scalar.muli arg11 c128_i32_59
  let v137 : BitVec 32 := v136
  let v138 : Index := Scalar.indexCast v137
  let c512 : Index := 512#32
  ![0, 0, v138.toNat, 512]
def k0_mult12 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32_67 : BitVec 32 := 128#32
  let v154 : BitVec 32 := Scalar.muli arg11 c128_i32_67
  v154
def k0_off10 (k0_t3 : Fin k0_t3_loop.trips) : Fin 4 → Nat :=
  let c0_68 : Index := 0#32
  let c0_69 : Index := 0#32
  let c0_i32_4 : BitVec 32 := 0#32
  let c1_i32_5 : BitVec 32 := 1#32
  let arg11 : BitVec 32 := Scf.iv c0_i32_4 c1_i32_5 k0_t3
  let c128_i32_67 : BitVec 32 := 128#32
  let v154 : BitVec 32 := Scalar.muli arg11 c128_i32_67
  let v155 : BitVec 32 := v154
  let v156 : Index := Scalar.indexCast v155
  let c640 : Index := 640#32
  ![0, 0, v156.toNat, 640]
def k0_mult13 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32_75 : BitVec 32 := 128#32
  let v172 : BitVec 32 := Scalar.muli arg11 c128_i32_75
  v172
def k0_off11 (k0_t3 : Fin k0_t3_loop.trips) : Fin 4 → Nat :=
  let c0_76 : Index := 0#32
  let c0_77 : Index := 0#32
  let c0_i32_4 : BitVec 32 := 0#32
  let c1_i32_5 : BitVec 32 := 1#32
  let arg11 : BitVec 32 := Scf.iv c0_i32_4 c1_i32_5 k0_t3
  let c128_i32_75 : BitVec 32 := 128#32
  let v172 : BitVec 32 := Scalar.muli arg11 c128_i32_75
  let v173 : BitVec 32 := v172
  let v174 : Index := Scalar.indexCast v173
  let c768 : Index := 768#32
  ![0, 0, v174.toNat, 768]
def k0_mult14 (k0_t3 : Fin k0_t3_loop.trips) : BitVec 32 :=
  let c0_i32_4 : BitVec 32 := 0#32
  let c1_i32_5 : BitVec 32 := 1#32
  let arg11 : BitVec 32 := Scf.iv c0_i32_4 c1_i32_5 k0_t3
  let c128_i32_83 : BitVec 32 := 128#32
  let v190 : BitVec 32 := Scalar.muli arg11 c128_i32_83
  v190
def k0_off12 (k0_t3 : Fin k0_t3_loop.trips) : Fin 4 → Nat :=
  let c0_84 : Index := 0#32
  let c0_85 : Index := 0#32
  let c0_i32_4 : BitVec 32 := 0#32
  let c1_i32_5 : BitVec 32 := 1#32
  let arg11 : BitVec 32 := Scf.iv c0_i32_4 c1_i32_5 k0_t3
  let c128_i32_83 : BitVec 32 := 128#32
  let v190 : BitVec 32 := Scalar.muli arg11 c128_i32_83
  let v191 : BitVec 32 := v190
  let v192 : Index := Scalar.indexCast v191
  let c896 : Index := 896#32
  ![0, 0, v192.toNat, 896]
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

@[reducible] def k0_t4_loop : Scf.Loop 32 :=
  let c0_i32_4 : BitVec 32 := 0#32
  let c16_i32 : BitVec 32 := 16#32
  let v12 : BitVec 32 := Scalar.addi c0_i32_4 c16_i32
  let c1_i32_5 : BitVec 32 := 1#32
  ⟨c0_i32_4, v12, c1_i32_5⟩
def k0_mult15 (k0_t4 : Fin k0_t4_loop.trips) : BitVec 32 :=
  let c0_i32_4 : BitVec 32 := 0#32
  let c1_i32_5 : BitVec 32 := 1#32
  let arg11 : BitVec 32 := Scf.iv c0_i32_4 c1_i32_5 k0_t4
  let c128_i32 : BitVec 32 := 128#32
  let v13 : BitVec 32 := Scalar.muli arg11 c128_i32
  v13
def k0_off13 (k0_t4 : Fin k0_t4_loop.trips) : Fin 2 → Nat :=
  let c0_i32_4 : BitVec 32 := 0#32
  let c1_i32_5 : BitVec 32 := 1#32
  let arg11 : BitVec 32 := Scf.iv c0_i32_4 c1_i32_5 k0_t4
  let c128_i32 : BitVec 32 := 128#32
  let v13 : BitVec 32 := Scalar.muli arg11 c128_i32
  let v14 : BitVec 32 := v13
  let v15 : Index := Scalar.indexCast v14
  let c0 : Index := 0#32
  ![v15.toNat, 0]
def k0_mult16 (k0_t4 : Fin k0_t4_loop.trips) : BitVec 32 :=
  let c0_i32_4 : BitVec 32 := 0#32
  let c1_i32_5 : BitVec 32 := 1#32
  let arg11 : BitVec 32 := Scf.iv c0_i32_4 c1_i32_5 k0_t4
  let c128_i32_9 : BitVec 32 := 128#32
  let v21 : BitVec 32 := Scalar.muli arg11 c128_i32_9
  v21
def k0_off14 (k0_t4 : Fin k0_t4_loop.trips) : Fin 4 → Nat :=
  let c0_10 : Index := 0#32
  let c0_11 : Index := 0#32
  let c0_i32_4 : BitVec 32 := 0#32
  let c1_i32_5 : BitVec 32 := 1#32
  let arg11 : BitVec 32 := Scf.iv c0_i32_4 c1_i32_5 k0_t4
  let c128_i32_9 : BitVec 32 := 128#32
  let v21 : BitVec 32 := Scalar.muli arg11 c128_i32_9
  let v22 : BitVec 32 := v21
  let v23 : Index := Scalar.indexCast v22
  let c0_12 : Index := 0#32
  ![0, 0, v23.toNat, 0]
def k0_cond4 (i : grid0.Coords) : BitVec 1 :=
  let arg1 : BitVec 32 := BitVec.ofNat 32 (i 1).val
  let c3_i32 : BitVec 32 := 3#32
  let v9 : BitVec 1 := Scalar.cmpi .sge arg1 c3_i32
  let v10 : BitVec 32 := Scalar.extui v9
  let c0_i32_3 : BitVec 32 := 0#32
  let v11 : BitVec 1 := Scalar.cmpi .ne v10 c0_i32_3
  v11

@[reducible] def k0_t5_loop : Scf.Loop 32 :=
  let c0_i32_4 : BitVec 32 := 0#32
  let c16_i32 : BitVec 32 := 16#32
  let v12 : BitVec 32 := Scalar.addi c0_i32_4 c16_i32
  let c1_i32_5 : BitVec 32 := 1#32
  ⟨c0_i32_4, v12, c1_i32_5⟩
def k0_mult17 (k0_t5 : Fin k0_t5_loop.trips) : BitVec 32 :=
  let c0_i32_4 : BitVec 32 := 0#32
  let c1_i32_5 : BitVec 32 := 1#32
  let arg11 : BitVec 32 := Scf.iv c0_i32_4 c1_i32_5 k0_t5
  let c128_i32 : BitVec 32 := 128#32
  let v13 : BitVec 32 := Scalar.muli arg11 c128_i32
  v13
def k0_off15 (k0_t5 : Fin k0_t5_loop.trips) : Fin 2 → Nat :=
  let c0_i32_4 : BitVec 32 := 0#32
  let c1_i32_5 : BitVec 32 := 1#32
  let arg11 : BitVec 32 := Scf.iv c0_i32_4 c1_i32_5 k0_t5
  let c128_i32 : BitVec 32 := 128#32
  let v13 : BitVec 32 := Scalar.muli arg11 c128_i32
  let v14 : BitVec 32 := v13
  let v15 : Index := Scalar.indexCast v14
  let c0 : Index := 0#32
  ![v15.toNat, 0]
def k0_mult18 (k0_t5 : Fin k0_t5_loop.trips) : BitVec 32 :=
  let c0_i32_4 : BitVec 32 := 0#32
  let c1_i32_5 : BitVec 32 := 1#32
  let arg11 : BitVec 32 := Scf.iv c0_i32_4 c1_i32_5 k0_t5
  let c128_i32_9 : BitVec 32 := 128#32
  let v22 : BitVec 32 := Scalar.muli arg11 c128_i32_9
  v22
def k0_off16 (k0_t5 : Fin k0_t5_loop.trips) : Fin 4 → Nat :=
  let c0_10 : Index := 0#32
  let c0_11 : Index := 0#32
  let c0_i32_4 : BitVec 32 := 0#32
  let c1_i32_5 : BitVec 32 := 1#32
  let arg11 : BitVec 32 := Scf.iv c0_i32_4 c1_i32_5 k0_t5
  let c128_i32_9 : BitVec 32 := 128#32
  let v22 : BitVec 32 := Scalar.muli arg11 c128_i32_9
  let v23 : BitVec 32 := v22
  let v24 : Index := Scalar.indexCast v23
  let c0_12 : Index := 0#32
  ![0, 0, v24.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, arg0.toNat, c0_i32_0.toNat, c0_i32_1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x2048x1024 : Shape := ⟨3, ![2, 2048, 1024]⟩
abbrev S1024 : Shape := ⟨1, ![1024]⟩
abbrev S1024x6144 : Shape := ⟨2, ![1024, 6144]⟩
abbrev S8x128x128 : Shape := ⟨3, ![8, 128, 128]⟩
abbrev S8x128 : Shape := ⟨2, ![8, 128]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x6144 : Shape := ⟨3, ![2, 2048, 6144]⟩
abbrev S2x16x128x8x128 : Shape := ⟨5, ![2, 16, 128, 8, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩
abbrev S1x2x2048x1024 : Shape := ⟨4, ![1, 2, 2048, 1024]⟩
abbrev S5x2x2048x1024 : Shape := ⟨4, ![5, 2, 2048, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x6144, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x6144, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S2x2048, .f32⟩
  | .hbm, ⟨66, _⟩ => ⟨S2x2048x1, .f32⟩
  | .hbm, ⟨67, _⟩ => ⟨S_, .f32⟩
  | .hbm, ⟨68, _⟩ => ⟨S2x2048x1, .f32⟩
  | .hbm, ⟨69, _⟩ => ⟨S2x2048x1, .f32⟩
  | .hbm, ⟨70, _⟩ => ⟨S_, .f32⟩
  | .hbm, ⟨71, _⟩ => ⟨S2x2048x1, .f32⟩
  | .hbm, ⟨72, _⟩ => ⟨S2x2048x1, .f32⟩
  | .hbm, ⟨73, _⟩ => ⟨S2x2048x1, .f32⟩
  | .hbm, ⟨74, _⟩ => ⟨S2x2048x1024, .f32⟩
  | .hbm, ⟨75, _⟩ => ⟨S2x2048x1024, .f32⟩
  | .hbm, ⟨76, _⟩ => ⟨S1x1x1024, .f32⟩
  | .hbm, ⟨77, _⟩ => ⟨S2x2048x1024, .f32⟩
  | .hbm, ⟨78, _⟩ => ⟨S2x2048x1024, .f32⟩
  | .hbm, ⟨79, _⟩ => ⟨S2x16x128x8x128, .f32⟩
  | .hbm, ⟨80, _⟩ => ⟨S8x2x16x128x128, .f32⟩
  | .hbm, ⟨81, _⟩ => ⟨S2x16x128x8x128, .f32⟩
  | .hbm, ⟨82, _⟩ => ⟨S128x8, .f32⟩
  | .hbm, ⟨83, _⟩ => ⟨S1x1x128x8x1, .f32⟩
  | .hbm, ⟨84, _⟩ => ⟨S2x16x128x8x128, .f32⟩
  | .hbm, ⟨85, _⟩ => ⟨S2x16x128x8x128, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S_, .f32⟩
  | .hbm, ⟨91, _⟩ => ⟨S2x2048x1024, .f32⟩
  | .hbm, ⟨92, _⟩ => ⟨S2x2048x1024, .f32⟩
  | .hbm, ⟨93, _⟩ => ⟨S_, .f32⟩
  | .hbm, ⟨94, _⟩ => ⟨S2x2048x1024, .f32⟩
  | .hbm, ⟨95, _⟩ => ⟨S2x2048x1024, .f32⟩
  | .hbm, ⟨96, _⟩ => ⟨S2x2048x1024, .f32⟩
  | .hbm, ⟨97, _⟩ => ⟨S2x2048x1024, .f32⟩
  | .hbm, ⟨98, _⟩ => ⟨S_, .f32⟩
  | .hbm, ⟨99, _⟩ => ⟨S2x2048x1024, .f32⟩
  | .hbm, ⟨100, _⟩ => ⟨S2x2048x1024, .f32⟩
  | .hbm, ⟨101, _⟩ => ⟨S_, .f32⟩
  | .hbm, ⟨102, _⟩ => ⟨S2x2048x1024, .f32⟩
  | .hbm, ⟨103, _⟩ => ⟨S2x2048x1024, .f32⟩
  | .hbm, ⟨104, _⟩ => ⟨S2x2048x1024, .f32⟩
  | .hbm, ⟨105, _⟩ => ⟨S2x2048x1024, .f32⟩
  | .hbm, ⟨106, _⟩ => ⟨S_, .f32⟩
  | .hbm, ⟨107, _⟩ => ⟨S2x2048x1024, .f32⟩
  | .hbm, ⟨108, _⟩ => ⟨S2x2048x1024, .f32⟩
  | .hbm, ⟨109, _⟩ => ⟨S_, .f32⟩
  | .hbm, ⟨110, _⟩ => ⟨S2x2048x1024, .f32⟩
  | .hbm, ⟨111, _⟩ => ⟨S2x2048x1024, .f32⟩
  | .hbm, ⟨112, _⟩ => ⟨S1x2x2048x1024, .f32⟩
  | .hbm, ⟨113, _⟩ => ⟨S1x2x2048x1024, .f32⟩
  | .hbm, ⟨114, _⟩ => ⟨S1x2x2048x1024, .f32⟩
  | .hbm, ⟨115, _⟩ => ⟨S1x2x2048x1024, .f32⟩
  | .hbm, ⟨116, _⟩ => ⟨S1x2x2048x1024, .f32⟩
  | .hbm, ⟨117, _⟩ => ⟨S5x2x2048x1024, .f32⟩
  | .hbm, ⟨118, _⟩ => ⟨S5x2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_cst_18 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Kernel.lean ====
abbrev S5x2x2048x1024 : Shape := ⟨4, ![5, 2, 2048, 1024]⟩
abbrev S5x1024 : Shape := ⟨2, ![5, 1024]⟩
abbrev S1024 : Shape := ⟨1, ![1024]⟩
abbrev S4x256x256 : Shape := ⟨3, ![4, 256, 256]⟩
abbrev S1024x16 : Shape := ⟨2, ![1024, 16]⟩
abbrev S16 : Shape := ⟨1, ![16]⟩
abbrev S4x256 : Shape := ⟨2, ![4, 256]⟩
abbrev S1x1024 : Shape := ⟨2, ![1, 1024]⟩
abbrev S16x1024 : Shape := ⟨2, ![16, 1024]⟩
abbrev S1x16 : Shape := ⟨2, ![1, 16]⟩
abbrev S16x1 : Shape := ⟨2, ![16, 1]⟩
abbrev S2x2048x1024 : Shape := ⟨3, ![2, 2048, 1024]⟩
abbrev S1x1x2048x1024 : Shape := ⟨4, ![1, 1, 2048, 1024]⟩
abbrev S1x2048x1024 : Shape := ⟨3, ![1, 2048, 1024]⟩
abbrev S2064x1024 : Shape := ⟨2, ![2064, 1024]⟩
abbrev S2048x1024 : Shape := ⟨2, ![2048, 1024]⟩
abbrev S2048x16 : Shape := ⟨2, ![2048, 16]⟩
abbrev S16x2048 : Shape := ⟨2, ![16, 2048]⟩
abbrev S2048x256 : Shape := ⟨2, ![2048, 256]⟩
abbrev S2048x384 : Shape := ⟨2, ![2048, 384]⟩
abbrev S256x384 : Shape := ⟨2, ![256, 384]⟩
abbrev S128x128 : Shape := ⟨2, ![128, 128]⟩
abbrev S8x1024 : Shape := ⟨2, ![8, 1024]⟩
abbrev S1x1x128x1024 : Shape := ⟨4, ![1, 1, 128, 1024]⟩
abbrev S128x1024 : Shape := ⟨2, ![128, 1024]⟩
abbrev S2048x128 : Shape := ⟨2, ![2048, 128]⟩
abbrev S128x16 : Shape := ⟨2, ![128, 16]⟩
abbrev S16x128 : Shape := ⟨2, ![16, 128]⟩
abbrev S128x256 : Shape := ⟨2, ![128, 256]⟩
abbrev S1x256 : Shape := ⟨2, ![1, 256]⟩
abbrev S144x256 : Shape := ⟨2, ![144, 256]⟩
abbrev S256x16 : Shape := ⟨2, ![256, 16]⟩
abbrev S16x256 : Shape := ⟨2, ![16, 256]⟩
abbrev S128x4 : Shape := ⟨2, ![128, 4]⟩
abbrev S4x128 : Shape := ⟨2, ![4, 128]⟩
abbrev S1x256x256 : Shape := ⟨3, ![1, 256, 256]⟩
abbrev S256x256 : Shape := ⟨2, ![256, 256]⟩
abbrev S1x1x128x256 : Shape := ⟨4, ![1, 1, 128, 256]⟩
abbrev S1x1 : Shape := ⟨2, ![1, 1]⟩
abbrev S128x384 : Shape := ⟨2, ![128, 384]⟩
abbrev S128x1 : Shape := ⟨2, ![128, 1]⟩
abbrev S1x128 : Shape := ⟨2, ![1, 128]⟩
abbrev S128 : Shape := ⟨1, ![128]⟩
abbrev S1 : Shape := ⟨1, ![1]⟩
abbrev S1x128x256 : Shape := ⟨3, ![1, 128, 256]⟩

abbrev nBuf : Space → Nat
  | .hbm => 21
  | .vmem => 26
  | .smem => 0
  | _ => 0

abbrev bufTy : (tb : Table) → Fin (tcTables nBuf tb) → BufTy
  | .hbm, ⟨0, _⟩ => ⟨S5x2x2048x1024, .bf16⟩
  | .hbm, ⟨1, _⟩ => ⟨S5x1024, .f32⟩
  | .hbm, ⟨2, _⟩ => ⟨S1024, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S1024x16, .f32⟩
  | .hbm, ⟨7, _⟩ => ⟨S16, .f32⟩
  | .hbm, ⟨8, _⟩ => ⟨S4x256, .f32⟩
  | .hbm, ⟨9, _⟩ => ⟨S1024, .f32⟩
  | .hbm, ⟨10, _⟩ => ⟨S4x256x256, .bf16⟩
  | .hbm, ⟨11, _⟩ => ⟨S4x256x256, .bf16⟩
  | .hbm, ⟨12, _⟩ => ⟨S4x256x256, .bf16⟩
  | .hbm, ⟨13, _⟩ => ⟨S1024x16, .bf16⟩
  | .hbm, ⟨14, _⟩ => ⟨S1x1024, .f32⟩
  | .hbm, ⟨15, _⟩ => ⟨S16x1024, .bf16⟩
  | .hbm, ⟨16, _⟩ => ⟨S1x16, .f32⟩
  | .hbm, ⟨17, _⟩ => ⟨S16x1, .f32⟩
  | .hbm, ⟨18, _⟩ => ⟨S1x1024, .f32⟩
  | .hbm, ⟨19, _⟩ => ⟨S1x1024, .f32⟩
  | .hbm, ⟨20, _⟩ => ⟨S2x2048x1024, .bf16⟩
  | .local _ .vmem, ⟨0, _⟩ => ⟨S1x1x2048x1024, .bf16⟩
  | .local _ .vmem, ⟨1, _⟩ => ⟨S1x1x2048x1024, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S5x1024, .f32⟩
  | .local _ .vmem, ⟨5, _⟩ => ⟨S1x1024, .f32⟩
  | .local _ .vmem, ⟨6, _⟩ => ⟨S4x256x256, .bf16⟩
  | .local _ .vmem, ⟨7, _⟩ => ⟨S4x256x256, .bf16⟩
  | .local _ .vmem, ⟨8, _⟩ => ⟨S4x256x256, .bf16⟩
  | .local _ .vmem, ⟨9, _⟩ => ⟨S1024x16, .bf16⟩
  | .local _ .vmem, ⟨10, _⟩ => ⟨S16x1024, .bf16⟩
  | .local _ .vmem, ⟨11, _⟩ => ⟨S1x16, .f32⟩
  | .local _ .vmem, ⟨12, _⟩ => ⟨S16x1, .f32⟩
  | .local _ .vmem, ⟨13, _⟩ => ⟨S1x1024, .f32⟩
  | .local _ .vmem, ⟨14, _⟩ => ⟨S1x1024, .f32⟩
  | .local _ .vmem, ⟨15, _⟩ => ⟨S1x2048x1024, .bf16⟩
  | .local _ .vmem, ⟨16, _⟩ => ⟨S1x2048x1024, .bf16⟩
  | .local _ .vmem, ⟨17, _⟩ => ⟨S2064x1024, .f32⟩
  | .local _ .vmem, ⟨18, _⟩ => ⟨S2048x1024, .bf16⟩
  | .local _ .vmem, ⟨19, _⟩ => ⟨S2048x16, .f32⟩
  | .local _ .vmem, ⟨20, _⟩ => ⟨S16x2048, .f32⟩
  | .local _ .vmem, ⟨21, _⟩ => ⟨S2048x256, .bf16⟩
  | .local _ .vmem, ⟨22, _⟩ => ⟨S2048x256, .bf16⟩
  | .local _ .vmem, ⟨23, _⟩ => ⟨S2048x384, .bf16⟩
  | .local _ .vmem, ⟨24, _⟩ => ⟨S2048x256, .f32⟩
  | .local _ .vmem, ⟨25, _⟩ => ⟨S256x384, .f32⟩
  | _, _ => ⟨S5x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c16_i32 : BitVec 32 := 16#32
  let v20 : BitVec 32 := Scalar.addi c0_i32 c16_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg24 : BitVec 32 := Scf.iv c0_i32 c1_i32 k0_t1
  let c128_i32 : BitVec 32 := 128#32
  let v92 : BitVec 32 := Scalar.muli arg24 c128_i32
  v92
def k0_off1 (k0_t1 : Fin k0_t1_loop.trips) : Fin 4 → Nat :=
  let c0_96 : Index := 0#32
  let c0_97 : Index := 0#32
  let c0_i32 : BitVec 32 := 0#32
  let c1_i32 : BitVec 32 := 1#32
  let arg24 : BitVec 32 := Scf.iv c0_i32 c1_i32 k0_t1
  let c128_i32 : BitVec 32 := 128#32
  let v92 : BitVec 32 := Scalar.muli arg24 c128_i32
  let v93 : BitVec 32 := v92
  let v94 : Index := Scalar.indexCast v93
  let c0_98 : Index := 0#32
  ![0, 0, v94.toNat, 0]
def k0_mult2 (k0_t1 : Fin k0_t1_loop.trips) : BitVec 32 :=
  let c0_i32 : BitVec 32 := 0#32
  let c1_i32 : BitVec 32 := 1#32
  let arg24 : BitVec 32 := Scf.iv c0_i32 c1_i32 k0_t1
  let c128_i32_99 : BitVec 32 := 128#32
  let v98 : BitVec 32 := Scalar.muli arg24 c128_i32_99
  v98
def k0_off2 (k0_t1 : Fin k0_t1_loop.trips) : Fin 2 → Nat :=
  let c0_i32 : BitVec 32 := 0#32
  let c1_i32 : BitVec 32 := 1#32
  let arg24 : BitVec 32 := Scf.iv c0_i32 c1_i32 k0_t1
  let c128_i32_99 : BitVec 32 := 128#32
  let v98 : BitVec 32 := Scalar.muli arg24 c128_i32_99
  let v99 : BitVec 32 := v98
  let c8_i32 : BitVec 32 := 8#32
  let v100 : BitVec 32 := Scalar.addi v99 c8_i32
  let v101 : Index := Scalar.indexCast v100
  let c0_100 : Index := 0#32
  ![v101.toNat, 0]
@[reducible] def k0_t2_loop : Scf.Loop 32 :=
  let c0_i32_12 : BitVec 32 := 0#32
  let c16_i32_13 : BitVec 32 := 16#32
  let v31 : BitVec 32 := Scalar.addi c0_i32_12 c16_i32_13
  let c1_i32_14 : BitVec 32 := 1#32
  ⟨c0_i32_12, v31, c1_i32_14⟩
def k0_mult3 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32 : BitVec 32 := 128#32
  let v92 : BitVec 32 := Scalar.muli arg24 c128_i32
  v92
def k0_off3 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32 : BitVec 32 := 128#32
  let v92 : BitVec 32 := Scalar.muli arg24 c128_i32
  let v93 : BitVec 32 := v92
  let v109 : Index := Scalar.indexCast v93
  let c0_105 : Index := 0#32
  ![v109.toNat, 0]
def k0_mult4 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_112 : BitVec 32 := 128#32
  let v139 : BitVec 32 := Scalar.muli arg24 c128_i32_112
  v139
def k0_off4 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32_112 : BitVec 32 := 128#32
  let v139 : BitVec 32 := Scalar.muli arg24 c128_i32_112
  let v140 : BitVec 32 := v139
  let v141 : Index := Scalar.indexCast v140
  let c0_113 : Index := 0#32
  ![v141.toNat, 0]
def k0_off5 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32 : BitVec 32 := 128#32
  let v92 : BitVec 32 := Scalar.muli arg24 c128_i32
  let v93 : BitVec 32 := v92
  let v158 : Index := Scalar.indexCast v93
  let c256_123 : Index := 256#32
  ![v158.toNat, 256]
def k0_mult5 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_134 : BitVec 32 := 128#32
  let v188 : BitVec 32 := Scalar.muli arg24 c128_i32_134
  v188
def k0_off6 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32_134 : BitVec 32 := 128#32
  let v188 : BitVec 32 := Scalar.muli arg24 c128_i32_134
  let v189 : BitVec 32 := v188
  let v190 : Index := Scalar.indexCast v189
  let c256_135 : Index := 256#32
  ![v190.toNat, 256]
def k0_off7 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32 : BitVec 32 := 128#32
  let v92 : BitVec 32 := Scalar.muli arg24 c128_i32
  let v93 : BitVec 32 := v92
  let v207 : Index := Scalar.indexCast v93
  let c512_144 : Index := 512#32
  ![v207.toNat, 512]
def k0_mult6 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_155 : BitVec 32 := 128#32
  let v237 : BitVec 32 := Scalar.muli arg24 c128_i32_155
  v237
def k0_off8 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32_155 : BitVec 32 := 128#32
  let v237 : BitVec 32 := Scalar.muli arg24 c128_i32_155
  let v238 : BitVec 32 := v237
  let v239 : Index := Scalar.indexCast v238
  let c512_156 : Index := 512#32
  ![v239.toNat, 512]
def k0_off9 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32 : BitVec 32 := 128#32
  let v92 : BitVec 32 := Scalar.muli arg24 c128_i32
  let v93 : BitVec 32 := v92
  let v256 : Index := Scalar.indexCast v93
  let c768_165 : Index := 768#32
  ![v256.toNat, 768]
def k0_mult7 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_176 : BitVec 32 := 128#32
  let v286 : BitVec 32 := Scalar.muli arg24 c128_i32_176
  v286
def k0_off10 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32_176 : BitVec 32 := 128#32
  let v286 : BitVec 32 := Scalar.muli arg24 c128_i32_176
  let v287 : BitVec 32 := v286
  let v288 : Index := Scalar.indexCast v287
  let c768_177 : Index := 768#32
  ![v288.toNat, 768]
def k0_mult8 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_212 : BitVec 32 := 128#32
  let v401 : BitVec 32 := Scalar.muli arg24 c128_i32_212
  v401
def k0_off11 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32_212 : BitVec 32 := 128#32
  let v401 : BitVec 32 := Scalar.muli arg24 c128_i32_212
  let v402 : BitVec 32 := v401
  let v403 : Index := Scalar.indexCast v402
  let c0_213 : Index := 0#32
  ![v403.toNat, 0]
def k0_mult9 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_214 : BitVec 32 := 128#32
  let v407 : BitVec 32 := Scalar.muli arg24 c128_i32_214
  v407
def k0_off12 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32_214 : BitVec 32 := 128#32
  let v407 : BitVec 32 := Scalar.muli arg24 c128_i32_214
  let v408 : BitVec 32 := v407
  let v409 : Index := Scalar.indexCast v408
  let c4_215 : Index := 4#32
  ![v409.toNat, 4]
def k0_mult10 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_216 : BitVec 32 := 128#32
  let v414 : BitVec 32 := Scalar.muli arg24 c128_i32_216
  v414
def k0_off13 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32_216 : BitVec 32 := 128#32
  let v414 : BitVec 32 := Scalar.muli arg24 c128_i32_216
  let v415 : BitVec 32 := v414
  let v416 : Index := Scalar.indexCast v415
  let c8 : Index := 8#32
  ![v416.toNat, 8]
def k0_mult11 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_217 : BitVec 32 := 128#32
  let v420 : BitVec 32 := Scalar.muli arg24 c128_i32_217
  v420
def k0_off14 (k0_t2 : Fin k0_t2_loop.trips) : Fin 2 → Nat :=
  let c0_i32_12 : BitVec 32 := 0#32
  let c1_i32_14 : BitVec 32 := 1#32
  let arg24 : BitVec 32 := Scf.iv c0_i32_12 c1_i32_14 k0_t2
  let c128_i32_217 : BitVec 32 := 128#32
  let v420 : BitVec 32 := Scalar.muli arg24 c128_i32_217
  let v421 : BitVec 32 := v420
  let v422 : Index := Scalar.indexCast v421
  let c12 : Index := 12#32
  ![v422.toNat, 12]
def k0_mult12 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_218 : BitVec 32 := 128#32
  let v427 : BitVec 32 := Scalar.muli arg24 c128_i32_218
  v427
def k0_off15 (k0_t2 : Fin k0_t2_loop.trips) : Fin 2 → Nat :=
  let c0_219 : Index := 0#32
  let c0_i32_12 : BitVec 32 := 0#32
  let c1_i32_14 : BitVec 32 := 1#32
  let arg24 : BitVec 32 := Scf.iv c0_i32_12 c1_i32_14 k0_t2
  let c128_i32_218 : BitVec 32 := 128#32
  let v427 : BitVec 32 := Scalar.muli arg24 c128_i32_218
  let v428 : BitVec 32 := v427
  let v429 : Index := Scalar.indexCast v428
  ![0, v429.toNat]
def k0_mult13 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_220 : BitVec 32 := 128#32
  let v433 : BitVec 32 := Scalar.muli arg24 c128_i32_220
  v433
def k0_off16 (k0_t2 : Fin k0_t2_loop.trips) : Fin 2 → Nat :=
  let c4_221 : Index := 4#32
  let c0_i32_12 : BitVec 32 := 0#32
  let c1_i32_14 : BitVec 32 := 1#32
  let arg24 : BitVec 32 := Scf.iv c0_i32_12 c1_i32_14 k0_t2
  let c128_i32_220 : BitVec 32 := 128#32
  let v433 : BitVec 32 := Scalar.muli arg24 c128_i32_220
  let v434 : BitVec 32 := v433
  let v435 : Index := Scalar.indexCast v434
  ![4, v435.toNat]
def k0_mult14 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_222 : BitVec 32 := 128#32
  let v440 : BitVec 32 := Scalar.muli arg24 c128_i32_222
  v440
def k0_off17 (k0_t2 : Fin k0_t2_loop.trips) : Fin 2 → Nat :=
  let c8_223 : Index := 8#32
  let c0_i32_12 : BitVec 32 := 0#32
  let c1_i32_14 : BitVec 32 := 1#32
  let arg24 : BitVec 32 := Scf.iv c0_i32_12 c1_i32_14 k0_t2
  let c128_i32_222 : BitVec 32 := 128#32
  let v440 : BitVec 32 := Scalar.muli arg24 c128_i32_222
  let v441 : BitVec 32 := v440
  let v442 : Index := Scalar.indexCast v441
  ![8, v442.toNat]
def k0_mult15 (k0_t2 : Fin k0_t2_loop.trips) : BitVec 32 :=
  let c0_i32_12 : BitVec 32 := 0#32
  let c1_i32_14 : BitVec 32 := 1#32
  let arg24 : BitVec 32 := Scf.iv c0_i32_12 c1_i32_14 k0_t2
  let c128_i32_224 : BitVec 32 := 128#32
  let v446 : BitVec 32 := Scalar.muli arg24 c128_i32_224
  v446
def k0_off18 (k0_t2 : Fin k0_t2_loop.trips) : Fin 2 → Nat :=
  let c12_225 : Index := 12#32
  let c0_i32_12 : BitVec 32 := 0#32
  let c1_i32_14 : BitVec 32 := 1#32
  let arg24 : BitVec 32 := Scf.iv c0_i32_12 c1_i32_14 k0_t2
  let c128_i32_224 : BitVec 32 := 128#32
  let v446 : BitVec 32 := Scalar.muli arg24 c128_i32_224
  let v447 : BitVec 32 := v446
  let v448 : Index := Scalar.indexCast v447
  ![12, v448.toNat]
@[reducible] def k0_t3_loop : Scf.Loop 32 :=
  let c0_i32_16 : BitVec 32 := 0#32
  let c16_i32_17 : BitVec 32 := 16#32
  let v32 : BitVec 32 := Scalar.addi c0_i32_16 c16_i32_17
  let c1_i32_18 : BitVec 32 := 1#32
  ⟨c0_i32_16, v32, c1_i32_18⟩
def k0_mult16 (k0_t3 : Fin k0_t3_loop.trips) : BitVec 32 :=
  let c0_i32_16 : BitVec 32 := 0#32
  let c1_i32_18 : BitVec 32 := 1#32
  let arg24 : BitVec 32 := Scf.iv c0_i32_16 c1_i32_18 k0_t3
  let c128_i32 : BitVec 32 := 128#32
  let v92 : BitVec 32 := Scalar.muli arg24 c128_i32
  v92
def k0_off19 (k0_t3 : Fin k0_t3_loop.trips) : Fin 2 → Nat :=
  let c0_i32_16 : BitVec 32 := 0#32
  let c1_i32_18 : BitVec 32 := 1#32
  let arg24 : BitVec 32 := Scf.iv c0_i32_16 c1_i32_18 k0_t3
  let c128_i32 : BitVec 32 := 128#32
  let v92 : BitVec 32 := Scalar.muli arg24 c128_i32
  let v93 : BitVec 32 := v92
  let v94 : Index := Scalar.indexCast v93
  let c0_96 : Index := 0#32
  ![v94.toNat, 0]
def k0_mult17 (k0_t3 : Fin k0_t3_loop.trips) : BitVec 32 :=
  let c0_i32_16 : BitVec 32 := 0#32
  let c1_i32_18 : BitVec 32 := 1#32
  let arg24 : BitVec 32 := Scf.iv c0_i32_16 c1_i32_18 k0_t3
  let c128_i32_101 : BitVec 32 := 128#32
  let v100 : BitVec 32 := Scalar.muli arg24 c128_i32_101
  v100
def k0_off20 (k0_t3 : Fin k0_t3_loop.trips) : Fin 2 → Nat :=
  let c0_i32_16 : BitVec 32 := 0#32
  let c1_i32_18 : BitVec 32 := 1#32
  let arg24 : BitVec 32 := Scf.iv c0_i32_16 c1_i32_18 k0_t3
  let c128_i32_101 : BitVec 32 := 128#32
  let v100 : BitVec 32 := Scalar.muli arg24 c128_i32_101
  let v101 : BitVec 32 := v100
  let v102 : Index := Scalar.indexCast v101
  let c0_102 : Index := 0#32
  ![v102.toNat, 0]
def k0_mult18 (k0_t3 : Fin k0_t3_loop.trips) : BitVec 32 :=
  let c0_i32_16 : BitVec 32 := 0#32
  let c1_i32_18 : BitVec 32 := 1#32
  let arg24 : BitVec 32 := Scf.iv c0_i32_16 c1_i32_18 k0_t3
  let c128_i32_108 : BitVec 32 := 128#32
  let v112 : BitVec 32 := Scalar.muli arg24 c128_i32_108
  v112
def k0_mult19 (k0_t3 : Fin k0_t3_loop.trips) : BitVec 32 :=
  let c0_i32_16 : BitVec 32 := 0#32
  let c1_i32_18 : BitVec 32 := 1#32
  let arg24 : BitVec 32 := Scf.iv c0_i32_16 c1_i32_18 k0_t3
  let c128_i32_110 : BitVec 32 := 128#32
  let v118 : BitVec 32 := Scalar.muli arg24 c128_i32_110
  v118
def k0_off21 (k0_t3 : Fin k0_t3_loop.trips) : Fin 4 → Nat :=
  let c0_111 : Index := 0#32
  let c0_112 : Index := 0#32
  let c0_i32_16 : BitVec 32 := 0#32
  let c1_i32_18 : BitVec 32 := 1#32
  let arg24 : BitVec 32 := Scf.iv c0_i32_16 c1_i32_18 k0_t3
  let c128_i32_110 : BitVec 32 := 128#32
  let v118 : BitVec 32 := Scalar.muli arg24 c128_i32_110
  let v119 : BitVec 32 := v118
  let v120 : Index := Scalar.indexCast v119
  let c0_113 : Index := 0#32
  ![0, 0, v120.toNat, 0]
def k0_mult20 (k0_t3 : Fin k0_t3_loop.trips) : BitVec 32 :=
  let c0_i32_16 : BitVec 32 := 0#32
  let c1_i32_18 : BitVec 32 := 1#32
  let arg24 : BitVec 32 := Scf.iv c0_i32_16 c1_i32_18 k0_t3
  let c128_i32_118 : BitVec 32 := 128#32
  let v127 : BitVec 32 := Scalar.muli arg24 c128_i32_118
  v127
def k0_off22 (k0_t3 : Fin k0_t3_loop.trips) : Fin 2 → Nat :=
  let c0_i32_16 : BitVec 32 := 0#32
  let c1_i32_18 : BitVec 32 := 1#32
  let arg24 : BitVec 32 := Scf.iv c0_i32_16 c1_i32_18 k0_t3
  let c128_i32_118 : BitVec 32 := 128#32
  let v127 : BitVec 32 := Scalar.muli arg24 c128_i32_118
  let v128 : BitVec 32 := v127
  let v129 : Index := Scalar.indexCast v128
  let c0_119 : Index := 0#32
  ![v129.toNat, 0]
@[reducible] def k0_t4_loop : Scf.Loop 32 :=
  let c0_i32_24 : BitVec 32 := 0#32
  let c16_i32_25 : BitVec 32 := 16#32
  let v38 : BitVec 32 := Scalar.addi c0_i32_24 c16_i32_25
  let c1_i32_26 : BitVec 32 := 1#32
  ⟨c0_i32_24, v38, c1_i32_26⟩
def k0_mult21 (k0_t4 : Fin k0_t4_loop.trips) : BitVec 32 :=
  let c0_i32_24 : BitVec 32 := 0#32
  let c1_i32_26 : BitVec 32 := 1#32
  let arg24 : BitVec 32 := Scf.iv c0_i32_24 c1_i32_26 k0_t4
  let c128_i32 : BitVec 32 := 128#32
  let v92 : BitVec 32 := Scalar.muli arg24 c128_i32
  v92
def k0_off23 (k0_t4 : Fin k0_t4_loop.trips) : Fin 2 → Nat :=
  let c0_i32_24 : BitVec 32 := 0#32
  let c1_i32_26 : BitVec 32 := 1#32
  let arg24 : BitVec 32 := Scf.iv c0_i32_24 c1_i32_26 k0_t4
  let c128_i32 : BitVec 32 := 128#32
  let v92 : BitVec 32 := Scalar.muli arg24 c128_i32
  let v93 : BitVec 32 := v92
  let v94 : Index := Scalar.indexCast v93
  let c0_96 : Index := 0#32
  ![v94.toNat, 0]
def k0_off24 (k0_t4 : Fin k0_t4_loop.trips) : Fin 2 → Nat :=
  let c0_i32_24 : BitVec 32 := 0#32
  let c1_i32_26 : BitVec 32 := 1#32
  let arg24 : BitVec 32 := Scf.iv c0_i32_24 c1_i32_26 k0_t4
  let c128_i32 : BitVec 32 := 128#32
  let v92 : BitVec 32 := Scalar.muli arg24 c128_i32
  let v93 : BitVec 32 := v92
  let v98 : Index := Scalar.indexCast v93
  let c0_98 : Index := 0#32
  ![v98.toNat, 0]
def k0_off25 (k0_t4 : Fin k0_t4_loop.trips) : Fin 2 → Nat :=
  let c0_i32_24 : BitVec 32 := 0#32
  let c1_i32_26 : BitVec 32 := 1#32
  let arg24 : BitVec 32 := Scf.iv c0_i32_24 c1_i32_26 k0_t4
  let c128_i32 : BitVec 32 := 128#32
  let v92 : BitVec 32 := Scalar.muli arg24 c128_i32
  let v93 : BitVec 32 := v92
  let v100 : Index := Scalar.indexCast v93
  let c4 : Index := 4#32
  ![v100.toNat, 4]
def k0_off26 (k0_t4 : Fin k0_t4_loop.trips) : Fin 2 → Nat :=
  let c0_i32_24 : BitVec 32 := 0#32
  let c1_i32_26 : BitVec 32 := 1#32
  let arg24 : BitVec 32 := Scf.iv c0_i32_24 c1_i32_26 k0_t4
  let c128_i32 : BitVec 32 := 128#32
  let v92 : BitVec 32 := Scalar.muli arg24 c128_i32
  let v93 : BitVec 32 := v92
  let v102 : Index := Scalar.indexCast v93
  let c0_99 : Index := 0#32
  ![v102.toNat, 0]
def k0_off27 (k0_t4 : Fin k0_t4_loop.trips) : Fin 2 → Nat :=
  let c4_100 : Index := 4#32
  let c0_i32_24 : BitVec 32 := 0#32
  let c1_i32_26 : BitVec 32 := 1#32
  let arg24 : BitVec 32 := Scf.iv c0_i32_24 c1_i32_26 k0_t4
  let c128_i32 : BitVec 32 := 128#32
  let v92 : BitVec 32 := Scalar.muli arg24 c128_i32
  let v93 : BitVec 32 := v92
  let v104 : Index := Scalar.indexCast v93
  ![4, v104.toNat]
def k0_off28 (k0_t4 : Fin k0_t4_loop.trips) : Fin 2 → Nat :=
  let c0_101 : Index := 0#32
  let c0_i32_24 : BitVec 32 := 0#32
  let c1_i32_26 : BitVec 32 := 1#32
  let arg24 : BitVec 32 := Scf.iv c0_i32_24 c1_i32_26 k0_t4
  let c128_i32 : BitVec 32 := 128#32
  let v92 : BitVec 32 := Scalar.muli arg24 c128_i32
  let v93 : BitVec 32 := v92
  let v106 : Index := Scalar.indexCast v93
  ![0, v106.toNat]
def k0_mult22 (k0_t4 : Fin k0_t4_loop.trips) : BitVec 32 :=
  let c0_i32_24 : BitVec 32 := 0#32
  let c1_i32_26 : BitVec 32 := 1#32
  let arg24 : BitVec 32 := Scf.iv c0_i32_24 c1_i32_26 k0_t4
  let c128_i32_116 : BitVec 32 := 128#32
  let v170 : BitVec 32 := Scalar.muli arg24 c128_i32_116
  v170
@[reducible] def k0_t5_loop : Scf.Loop 32 :=
  let c0_i32_32 : BitVec 32 := 0#32
  let c16_i32_33 : BitVec 32 := 16#32
  let v45 : BitVec 32 := Scalar.addi c0_i32_32 c16_i32_33
  let c1_i32_34 : BitVec 32 := 1#32
  ⟨c0_i32_32, v45, c1_i32_34⟩
def k0_mult23 (k0_t5 : Fin k0_t5_loop.trips) : BitVec 32 :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32 : BitVec 32 := 128#32
  let v93 : BitVec 32 := Scalar.muli v92 c128_i32
  v93
def k0_off29 (k0_t5 : Fin k0_t5_loop.trips) : Fin 2 → Nat :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32 : BitVec 32 := 128#32
  let v93 : BitVec 32 := Scalar.muli v92 c128_i32
  let v94 : BitVec 32 := v93
  let v95 : Index := Scalar.indexCast v94
  let c0_96 : Index := 0#32
  ![v95.toNat, 0]
def k0_off30 (k0_t5 : Fin k0_t5_loop.trips) : Fin 2 → Nat :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32 : BitVec 32 := 128#32
  let v93 : BitVec 32 := Scalar.muli v92 c128_i32
  let v94 : BitVec 32 := v93
  let v99 : Index := Scalar.indexCast v94
  let c0_98 : Index := 0#32
  ![v99.toNat, 0]
def k0_off31 (k0_t5 : Fin k0_t5_loop.trips) : Fin 2 → Nat :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32 : BitVec 32 := 128#32
  let v93 : BitVec 32 := Scalar.muli v92 c128_i32
  let v94 : BitVec 32 := v93
  let v101 : Index := Scalar.indexCast v94
  let c12 : Index := 12#32
  ![v101.toNat, 12]
def k0_off32 (k0_t5 : Fin k0_t5_loop.trips) : Fin 2 → Nat :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32 : BitVec 32 := 128#32
  let v93 : BitVec 32 := Scalar.muli v92 c128_i32
  let v94 : BitVec 32 := v93
  let v103 : Index := Scalar.indexCast v94
  let c8 : Index := 8#32
  ![v103.toNat, 8]
def k0_off33 (k0_t5 : Fin k0_t5_loop.trips) : Fin 2 → Nat :=
  let c12_99 : Index := 12#32
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32 : BitVec 32 := 128#32
  let v93 : BitVec 32 := Scalar.muli v92 c128_i32
  let v94 : BitVec 32 := v93
  let v105 : Index := Scalar.indexCast v94
  ![12, v105.toNat]
def k0_off34 (k0_t5 : Fin k0_t5_loop.trips) : Fin 2 → Nat :=
  let c8_100 : Index := 8#32
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32 : BitVec 32 := 128#32
  let v93 : BitVec 32 := Scalar.muli v92 c128_i32
  let v94 : BitVec 32 := v93
  let v107 : Index := Scalar.indexCast v94
  ![8, v107.toNat]
def k0_mult24 (k0_t5 : Fin k0_t5_loop.trips) : BitVec 32 :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32_115 : BitVec 32 := 128#32
  let v171 : BitVec 32 := Scalar.muli v92 c128_i32_115
  v171
def k0_mult25 (k0_t5 : Fin k0_t5_loop.trips) : BitVec 32 :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32_122 : BitVec 32 := 128#32
  let v190 : BitVec 32 := Scalar.muli v92 c128_i32_122
  v190
def k0_off35 (k0_t5 : Fin k0_t5_loop.trips) : Fin 2 → Nat :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32_122 : BitVec 32 := 128#32
  let v190 : BitVec 32 := Scalar.muli v92 c128_i32_122
  let v191 : BitVec 32 := v190
  let v192 : Index := Scalar.indexCast v191
  let c0_123 : Index := 0#32
  ![v192.toNat, 0]
def k0_mult26 (k0_t5 : Fin k0_t5_loop.trips) : BitVec 32 :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32_124 : BitVec 32 := 128#32
  let v195 : BitVec 32 := Scalar.muli v92 c128_i32_124
  v195
def k0_off36 (k0_t5 : Fin k0_t5_loop.trips) : Fin 4 → Nat :=
  let c0_125 : Index := 0#32
  let c0_126 : Index := 0#32
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32_124 : BitVec 32 := 128#32
  let v195 : BitVec 32 := Scalar.muli v92 c128_i32_124
  let v196 : BitVec 32 := v195
  let v197 : Index := Scalar.indexCast v196
  let c0_127 : Index := 0#32
  ![0, 0, v197.toNat, 0]
def k0_mult27 (k0_t5 : Fin k0_t5_loop.trips) : BitVec 32 :=
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32_130 : BitVec 32 := 128#32
  let v208 : BitVec 32 := Scalar.muli v92 c128_i32_130
  v208
def k0_off37 (k0_t5 : Fin k0_t5_loop.trips) : Fin 3 → Nat :=
  let c0_131 : Index := 0#32
  let c15_i32 : BitVec 32 := 15#32
  let c0_i32_32 : BitVec 32 := 0#32
  let c1_i32_34 : BitVec 32 := 1#32
  let arg24 : BitVec 32 := Scf.iv c0_i32_32 c1_i32_34 k0_t5
  let v92 : BitVec 32 := Scalar.subi c15_i32 arg24
  let c128_i32_130 : BitVec 32 := 128#32
  let v208 : BitVec 32 := Scalar.muli v92 c128_i32_130
  let v209 : BitVec 32 := v208
  let v210 : Index := Scalar.indexCast v209
  let c0_132 : Index := 0#32
  ![0, v210.toNat, 0]
@[reducible] def k0_t6_loop : Scf.Loop 32 :=
  let c0_i32_36 : BitVec 32 := 0#32
  let c16_i32_37 : BitVec 32 := 16#32
  let v47 : BitVec 32 := Scalar.addi c0_i32_36 c16_i32_37
  let c1_i32_38 : BitVec 32 := 1#32
  ⟨c0_i32_36, v47, c1_i32_38⟩
def k0_mult28 (k0_t6 : Fin k0_t6_loop.trips) : BitVec 32 :=
  let c0_i32_36 : BitVec 32 := 0#32
  let c1_i32_38 : BitVec 32 := 1#32
  let arg24 : BitVec 32 := Scf.iv c0_i32_36 c1_i32_38 k0_t6
  let c128_i32 : BitVec 32 := 128#32
  let v92 : BitVec 32 := Scalar.muli arg24 c128_i32
  v92
def k0_off38 (k0_t6 : Fin k0_t6_loop.trips) : Fin 2 → Nat :=
  let c0_i32_36 : BitVec 32 := 0#32
  let c1_i32_38 : BitVec 32 := 1#32
  let arg24 : BitVec 32 := Scf.iv c0_i32_36 c1_i32_38 k0_t6
  let c128_i32 : BitVec 32 := 128#32
  let v92 : BitVec 32 := Scalar.muli arg24 c128_i32
  let v93 : BitVec 32 := v92
  let v94 : Index := Scalar.indexCast v93
  let c256_96 : Index := 256#32
  ![v94.toNat, 256]
def k0_mult29 (k0_t6 : Fin k0_t6_loop.trips) : BitVec 32 :=
  let c0_i32_36 : BitVec 32 := 0#32
  let c1_i32_38 : BitVec 32 := 1#32
  let arg24 : BitVec 32 := Scf.iv c0_i32_36 c1_i32_38 k0_t6
  let c128_i32_100 : BitVec 32 := 128#32
  let v100 : BitVec 32 := Scalar.muli arg24 c128_i32_100
  v100
def k0_off39 (k0_t6 : Fin k0_t6_loop.trips) : Fin 2 → Nat :=
  let c0_i32_36 : BitVec 32 := 0#32
  let c1_i32_38 : BitVec 32 := 1#32
  let arg24 : BitVec 32 := Scf.iv c0_i32_36 c1_i32_38 k0_t6
  let c128_i32_100 : BitVec 32 := 128#32
  let v100 : BitVec 32 := Scalar.muli arg24 c128_i32_100
  let v101 : BitVec 32 := v100
  let v102 : Index := Scalar.indexCast v101
  let c0_101 : Index := 0#32
  ![v102.toNat, 0]
def k0_mult30 (k0_t6 : Fin k0_t6_loop.trips) : BitVec 32 :=
  let c0_i32_36 : BitVec 32 := 0#32
  let c1_i32_38 : BitVec 32 := 1#32
  let arg24 : BitVec 32 := Scf.iv c0_i32_36 c1_i32_38 k0_t6
  let c128_i32_107 : BitVec 32 := 128#32
  let v112 : BitVec 32 := Scalar.muli arg24 c128_i32_107
  v112
def k0_mult31 (k0_t6 : Fin k0_t6_loop.trips) : BitVec 32 :=
  let c0_i32_36 : BitVec 32 := 0#32
  let c1_i32_38 : BitVec 32 := 1#32
  let arg24 : BitVec 32 := Scf.iv c0_i32_36 c1_i32_38 k0_t6
  let c128_i32_109 : BitVec 32 := 128#32
  let v118 : BitVec 32 := Scalar.muli arg24 c128_i32_109
  v118
def k0_off40 (k0_t6 : Fin k0_t6_loop.trips) : Fin 4 → Nat :=
  let c0_110 : Index := 0#32
  let c0_111 : Index := 0#32
  let c0_i32_36 : BitVec 32 := 0#32
  let c1_i32_38 : BitVec 32 := 1#32
  let arg24 : BitVec 32 := Scf.iv c0_i32_36 c1_i32_38 k0_t6
  let c128_i32_109 : BitVec 32 := 128#32
  let v118 : BitVec 32 := Scalar.muli arg24 c128_i32_109
  let v119 : BitVec 32 := v118
  let v120 : Index := Scalar.indexCast v119
  let c256_112 : Index := 256#32
  ![0, 0, v120.toNat, 256]
def k0_mult32 (k0_t6 : Fin k0_t6_loop.trips) : BitVec 32 :=
  let c0_i32_36 : BitVec 32 := 0#32
  let c1_i32_38 : BitVec 32 := 1#32
  let arg24 : BitVec 32 := Scf.iv c0_i32_36 c1_i32_38 k0_t6
  let c128_i32_117 : BitVec 32 := 128#32
  let v127 : BitVec 32 := Scalar.muli arg24 c128_i32_117
  v127
def k0_off41 (k0_t6 : Fin k0_t6_loop.trips) : Fin 2 → Nat :=
  let c0_i32_36 : BitVec 32 := 0#32
  let c1_i32_38 : BitVec 32 := 1#32
  let arg24 : BitVec 32 := Scf.iv c0_i32_36 c1_i32_38 k0_t6
  let c128_i32_117 : BitVec 32 := 128#32
  let v127 : BitVec 32 := Scalar.muli arg24 c128_i32_117
  let v128 : BitVec 32 := v127
  let v129 : Index := Scalar.indexCast v128
  let c0_118 : Index := 0#32
  ![v129.toNat, 0]
@[reducible] def k0_t7_loop : Scf.Loop 32 :=
  let c0_i32_44 : BitVec 32 := 0#32
  let c16_i32_45 : BitVec 32 := 16#32
  let v53 : BitVec 32 := Scalar.addi c0_i32_44 c16_i32_45
  let c1_i32_46 : BitVec 32 := 1#32
  ⟨c0_i32_44, v53, c1_i32_46⟩
def k0_mult33 (k0_t7 : Fin k0_t7_loop.trips) : BitVec 32 :=
  let c0_i32_44 : BitVec 32 := 0#32
  let c1_i32_46 : BitVec 32 := 1#32
  let arg24 : BitVec 32 := Scf.iv c0_i32_44 c1_i32_46 k0_t7
  let c128_i32 : BitVec 32 := 128#32
  let v92 : BitVec 32 := Scalar.muli arg24 c128_i32
  v92
def k0_off42 (k0_t7 : Fin k0_t7_loop.trips) : Fin 2 → Nat :=
  let c0_i32_44 : BitVec 32 := 0#32
  let c1_i32_46 : BitVec 32 := 1#32
  let arg24 : BitVec 32 := Scf.iv c0_i32_44 c1_i32_46 k0_t7
  let c128_i32 : BitVec 32 := 128#32
  let v92 : BitVec 32 := Scalar.muli arg24 c128_i32
  let v93 : BitVec 32 := v92
  let v94 : Index := Scalar.indexCast v93
  let c0_96 : Index := 0#32
  ![v94.toNat, 0]
def k0_off43 (k0_t7 : Fin k0_t7_loop.trips) : Fin 2 → Nat :=
  let c0_i32_44 : BitVec 32 := 0#32
  let c1_i32_46 : BitVec 32 := 1#32
  let arg24 : BitVec 32 := Scf.iv c0_i32_44 c1_i32_46 k0_t7
  let c128_i32 : BitVec 32 := 128#32
  let v92 : BitVec 32 := Scalar.muli arg24 c128_i32
  let v93 : BitVec 32 := v92
  let v98 : Index := Scalar.indexCast v93
  let c0_98 : Index := 0#32
  ![v98.toNat, 0]
def k0_off44 (k0_t7 : Fin k0_t7_loop.trips) : Fin 2 → Nat :=
  let c0_i32_44 : BitVec 32 := 0#32
  let c1_i32_46 : BitVec 32 := 1#32
  let arg24 : BitVec 32 := Scf.iv c0_i32_44 c1_i32_46 k0_t7
  let c128_i32 : BitVec 32 := 128#32
  let v92 : BitVec 32 := Scalar.muli arg24 c128_i32
  let v93 : BitVec 32 := v92
  let v100 : Index := Scalar.indexCast v93
  let c5 : Index := 5#32
  ![v100.toNat, 5]
def k0_off45 (k0_t7 : Fin k0_t7_loop.trips) : Fin 2 → Nat :=
  let c0_i32_44 : BitVec 32 := 0#32
  let c1_i32_46 : BitVec 32 := 1#32
  let arg24 : BitVec 32 := Scf.iv c0_i32_44 c1_i32_46 k0_t7
  let c128_i32 : BitVec 32 := 128#32
  let v92 : BitVec 32 := Scalar.muli arg24 c128_i32
  let v93 : BitVec 32 := v92
  let v102 : Index := Scalar.indexCast v93
  let c1 : Index := 1#32
  ![v102.toNat, 1]
def k0_off46 (k0_t7 : Fin k0_t7_loop.trips) : Fin 2 → Nat :=
  let c5_99 : Index := 5#32
  let c0_i32_44 : BitVec 32 := 0#32
  let c1_i32_46 : BitVec 32 := 1#32
  let arg24 : BitVec 32 := Scf.iv c0_i32_44 c1_i32_46 k0_t7
  let c128_i32 : BitVec 32 := 128#32
  let v92 : BitVec 32 := Scalar.muli arg24 c128_i32
  let v93 : BitVec 32 := v92
  let v104 : Index := Scalar.indexCast v93
  ![5, v104.toNat]
def k0_off47 (k0_t7 : Fin k0_t7_loop.trips) : Fin 2 → Nat :=
  let c1_100 : Index := 1#32
  let c0_i32_44 : BitVec 32 := 0#32
  let c1_i32_46 : BitVec 32 := 1#32
  let arg24 : BitVec 32 := Scf.iv c0_i32_44 c1_i32_46 k0_t7
  let c128_i32 : BitVec 32 := 128#32
  let v92 : BitVec 32 := Scalar.muli arg24 c128_i32
  let v93 : BitVec 32 := v92
  let v106 : Index := Scalar.indexCast v93
  ![1, v106.toNat]
def k0_mult34 (k0_t7 : Fin k0_t7_loop.trips) : BitVec 32 :=
  let c0_i32_44 : BitVec 32 := 0#32
  let c1_i32_46 : BitVec 32 := 1#32
  let arg24 : BitVec 32 := Scf.iv c0_i32_44 c1_i32_46 k0_t7
  let c128_i32_115 : BitVec 32 := 128#32
  let v170 : BitVec 32 := Scalar.muli arg24 c128_i32_115
  v170
@[reducible] def k0_t8_loop : Scf.Loop 32 :=
  let c0_i32_52 : BitVec 32 := 0#32
  let c16_i32_53 : BitVec 32 := 16#32
  let v60 : BitVec 32 := Scalar.addi c0_i32_52 c16_i32_53
  let c1_i32_54 : BitVec 32 := 1#32
  ⟨c0_i32_52, v60, c1_i32_54⟩
def k0_mult35 (k0_t8 : Fin k0_t8_loop.trips) : BitVec 32 :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32 : BitVec 32 := 128#32
  let v93 : BitVec 32 := Scalar.muli v92 c128_i32
  v93
def k0_off48 (k0_t8 : Fin k0_t8_loop.trips) : Fin 2 → Nat :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32 : BitVec 32 := 128#32
  let v93 : BitVec 32 := Scalar.muli v92 c128_i32
  let v94 : BitVec 32 := v93
  let v95 : Index := Scalar.indexCast v94
  let c0_96 : Index := 0#32
  ![v95.toNat, 0]
def k0_off49 (k0_t8 : Fin k0_t8_loop.trips) : Fin 2 → Nat :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32 : BitVec 32 := 128#32
  let v93 : BitVec 32 := Scalar.muli v92 c128_i32
  let v94 : BitVec 32 := v93
  let v99 : Index := Scalar.indexCast v94
  let c0_98 : Index := 0#32
  ![v99.toNat, 0]
def k0_off50 (k0_t8 : Fin k0_t8_loop.trips) : Fin 2 → Nat :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32 : BitVec 32 := 128#32
  let v93 : BitVec 32 := Scalar.muli v92 c128_i32
  let v94 : BitVec 32 := v93
  let v101 : Index := Scalar.indexCast v94
  let c13 : Index := 13#32
  ![v101.toNat, 13]
def k0_off51 (k0_t8 : Fin k0_t8_loop.trips) : Fin 2 → Nat :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32 : BitVec 32 := 128#32
  let v93 : BitVec 32 := Scalar.muli v92 c128_i32
  let v94 : BitVec 32 := v93
  let v103 : Index := Scalar.indexCast v94
  let c9 : Index := 9#32
  ![v103.toNat, 9]
def k0_off52 (k0_t8 : Fin k0_t8_loop.trips) : Fin 2 → Nat :=
  let c13_99 : Index := 13#32
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32 : BitVec 32 := 128#32
  let v93 : BitVec 32 := Scalar.muli v92 c128_i32
  let v94 : BitVec 32 := v93
  let v105 : Index := Scalar.indexCast v94
  ![13, v105.toNat]
def k0_off53 (k0_t8 : Fin k0_t8_loop.trips) : Fin 2 → Nat :=
  let c9_100 : Index := 9#32
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32 : BitVec 32 := 128#32
  let v93 : BitVec 32 := Scalar.muli v92 c128_i32
  let v94 : BitVec 32 := v93
  let v107 : Index := Scalar.indexCast v94
  ![9, v107.toNat]
def k0_mult36 (k0_t8 : Fin k0_t8_loop.trips) : BitVec 32 :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32_115 : BitVec 32 := 128#32
  let v171 : BitVec 32 := Scalar.muli v92 c128_i32_115
  v171
def k0_mult37 (k0_t8 : Fin k0_t8_loop.trips) : BitVec 32 :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32_122 : BitVec 32 := 128#32
  let v190 : BitVec 32 := Scalar.muli v92 c128_i32_122
  v190
def k0_off54 (k0_t8 : Fin k0_t8_loop.trips) : Fin 2 → Nat :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32_122 : BitVec 32 := 128#32
  let v190 : BitVec 32 := Scalar.muli v92 c128_i32_122
  let v191 : BitVec 32 := v190
  let v192 : Index := Scalar.indexCast v191
  let c256_123 : Index := 256#32
  ![v192.toNat, 256]
def k0_mult38 (k0_t8 : Fin k0_t8_loop.trips) : BitVec 32 :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32_124 : BitVec 32 := 128#32
  let v195 : BitVec 32 := Scalar.muli v92 c128_i32_124
  v195
def k0_off55 (k0_t8 : Fin k0_t8_loop.trips) : Fin 4 → Nat :=
  let c0_125 : Index := 0#32
  let c0_126 : Index := 0#32
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32_124 : BitVec 32 := 128#32
  let v195 : BitVec 32 := Scalar.muli v92 c128_i32_124
  let v196 : BitVec 32 := v195
  let v197 : Index := Scalar.indexCast v196
  let c256_127 : Index := 256#32
  ![0, 0, v197.toNat, 256]
def k0_mult39 (k0_t8 : Fin k0_t8_loop.trips) : BitVec 32 :=
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32_130 : BitVec 32 := 128#32
  let v208 : BitVec 32 := Scalar.muli v92 c128_i32_130
  v208
def k0_off56 (k0_t8 : Fin k0_t8_loop.trips) : Fin 3 → Nat :=
  let c0_131 : Index := 0#32
  let c15_i32 : BitVec 32 := 15#32
  let c0_i32_52 : BitVec 32 := 0#32
  let c1_i32_54 : BitVec 32 := 1#32
  let arg24 : BitVec 32 := Scf.iv c0_i32_52 c1_i32_54 k0_t8
  let v92 : BitVec 32 := Scalar.subi c15_i32 arg24
  let c128_i32_130 : BitVec 32 := 128#32
  let v208 : BitVec 32 := Scalar.muli v92 c128_i32_130
  let v209 : BitVec 32 := v208
  let v210 : Index := Scalar.indexCast v209
  let c256_132 : Index := 256#32
  ![0, v210.toNat, 256]
@[reducible] def k0_t9_loop : Scf.Loop 32 :=
  let c0_i32_56 : BitVec 32 := 0#32
  let c16_i32_57 : BitVec 32 := 16#32
  let v62 : BitVec 32 := Scalar.addi c0_i32_56 c16_i32_57
  let c1_i32_58 : BitVec 32 := 1#32
  ⟨c0_i32_56, v62, c1_i32_58⟩
def k0_mult40 (k0_t9 : Fin k0_t9_loop.trips) : BitVec 32 :=
  let c0_i32_56 : BitVec 32 := 0#32
  let c1_i32_58 : BitVec 32 := 1#32
  let arg24 : BitVec 32 := Scf.iv c0_i32_56 c1_i32_58 k0_t9
  let c128_i32 : BitVec 32 := 128#32
  let v92 : BitVec 32 := Scalar.muli arg24 c128_i32
  v92
def k0_off57 (k0_t9 : Fin k0_t9_loop.trips) : Fin 2 → Nat :=
  let c0_i32_56 : BitVec 32 := 0#32
  let c1_i32_58 : BitVec 32 := 1#32
  let arg24 : BitVec 32 := Scf.iv c0_i32_56 c1_i32_58 k0_t9
  let c128_i32 : BitVec 32 := 128#32
  let v92 : BitVec 32 := Scalar.muli arg24 c128_i32
  let v93 : BitVec 32 := v92
  let v94 : Index := Scalar.indexCast v93
  let c512 : Index := 512#32
  ![v94.toNat, 512]
def k0_mult41 (k0_t9 : Fin k0_t9_loop.trips) : BitVec 32 :=
  let c0_i32_56 : BitVec 32 := 0#32
  let c1_i32_58 : BitVec 32 := 1#32
  let arg24 : BitVec 32 := Scf.iv c0_i32_56 c1_i32_58 k0_t9
  let c128_i32_99 : BitVec 32 := 128#32
  let v100 : BitVec 32 := Scalar.muli arg24 c128_i32_99
  v100
def k0_off58 (k0_t9 : Fin k0_t9_loop.trips) : Fin 2 → Nat :=
  let c0_i32_56 : BitVec 32 := 0#32
  let c1_i32_58 : BitVec 32 := 1#32
  let arg24 : BitVec 32 := Scf.iv c0_i32_56 c1_i32_58 k0_t9
  let c128_i32_99 : BitVec 32 := 128#32
  let v100 : BitVec 32 := Scalar.muli arg24 c128_i32_99
  let v101 : BitVec 32 := v100
  let v102 : Index := Scalar.indexCast v101
  let c0_100 : Index := 0#32
  ![v102.toNat, 0]
def k0_mult42 (k0_t9 : Fin k0_t9_loop.trips) : BitVec 32 :=
  let c0_i32_56 : BitVec 32 := 0#32
  let c1_i32_58 : BitVec 32 := 1#32
  let arg24 : BitVec 32 := Scf.iv c0_i32_56 c1_i32_58 k0_t9
  let c128_i32_106 : BitVec 32 := 128#32
  let v112 : BitVec 32 := Scalar.muli arg24 c128_i32_106
  v112
def k0_mult43 (k0_t9 : Fin k0_t9_loop.trips) : BitVec 32 :=
  let c0_i32_56 : BitVec 32 := 0#32
  let c1_i32_58 : BitVec 32 := 1#32
  let arg24 : BitVec 32 := Scf.iv c0_i32_56 c1_i32_58 k0_t9
  let c128_i32_108 : BitVec 32 := 128#32
  let v118 : BitVec 32 := Scalar.muli arg24 c128_i32_108
  v118
def k0_off59 (k0_t9 : Fin k0_t9_loop.trips) : Fin 4 → Nat :=
  let c0_109 : Index := 0#32
  let c0_110 : Index := 0#32
  let c0_i32_56 : BitVec 32 := 0#32
  let c1_i32_58 : BitVec 32 := 1#32
  let arg24 : BitVec 32 := Scf.iv c0_i32_56 c1_i32_58 k0_t9
  let c128_i32_108 : BitVec 32 := 128#32
  let v118 : BitVec 32 := Scalar.muli arg24 c128_i32_108
  let v119 : BitVec 32 := v118
  let v120 : Index := Scalar.indexCast v119
  let c512_111 : Index := 512#32
  ![0, 0, v120.toNat, 512]
def k0_mult44 (k0_t9 : Fin k0_t9_loop.trips) : BitVec 32 :=
  let c0_i32_56 : BitVec 32 := 0#32
  let c1_i32_58 : BitVec 32 := 1#32
  let arg24 : BitVec 32 := Scf.iv c0_i32_56 c1_i32_58 k0_t9
  let c128_i32_116 : BitVec 32 := 128#32
  let v127 : BitVec 32 := Scalar.muli arg24 c128_i32_116
  v127
def k0_off60 (k0_t9 : Fin k0_t9_loop.trips) : Fin 2 → Nat :=
  let c0_i32_56 : BitVec 32 := 0#32
  let c1_i32_58 : BitVec 32 := 1#32
  let arg24 : BitVec 32 := Scf.iv c0_i32_56 c1_i32_58 k0_t9
  let c128_i32_116 : BitVec 32 := 128#32
  let v127 : BitVec 32 := Scalar.muli arg24 c128_i32_116
  let v128 : BitVec 32 := v127
  let v129 : Index := Scalar.indexCast v128
  let c0_117 : Index := 0#32
  ![v129.toNat, 0]
@[reducible] def k0_t10_loop : Scf.Loop 32 :=
  let c0_i32_64 : BitVec 32 := 0#32
  let c16_i32_65 : BitVec 32 := 16#32
  let v68 : BitVec 32 := Scalar.addi c0_i32_64 c16_i32_65
  let c1_i32_66 : BitVec 32 := 1#32
  ⟨c0_i32_64, v68, c1_i32_66⟩
def k0_mult45 (k0_t10 : Fin k0_t10_loop.trips) : BitVec 32 :=
  let c0_i32_64 : BitVec 32 := 0#32
  let c1_i32_66 : BitVec 32 := 1#32
  let arg24 : BitVec 32 := Scf.iv c0_i32_64 c1_i32_66 k0_t10
  let c128_i32 : BitVec 32 := 128#32
  let v92 : BitVec 32 := Scalar.muli arg24 c128_i32
  v92
def k0_off61 (k0_t10 : Fin k0_t10_loop.trips) : Fin 2 → Nat :=
  let c0_i32_64 : BitVec 32 := 0#32
  let c1_i32_66 : BitVec 32 := 1#32
  let arg24 : BitVec 32 := Scf.iv c0_i32_64 c1_i32_66 k0_t10
  let c128_i32 : BitVec 32 := 128#32
  let v92 : BitVec 32 := Scalar.muli arg24 c128_i32
  let v93 : BitVec 32 := v92
  let v94 : Index := Scalar.indexCast v93
  let c0_96 : Index := 0#32
  ![v94.toNat, 0]
def k0_off62 (k0_t10 : Fin k0_t10_loop.trips) : Fin 2 → Nat :=
  let c0_i32_64 : BitVec 32 := 0#32
  let c1_i32_66 : BitVec 32 := 1#32
  let arg24 : BitVec 32 := Scf.iv c0_i32_64 c1_i32_66 k0_t10
  let c128_i32 : BitVec 32 := 128#32
  let v92 : BitVec 32 := Scalar.muli arg24 c128_i32
  let v93 : BitVec 32 := v92
  let v98 : Index := Scalar.indexCast v93
  let c0_98 : Index := 0#32
  ![v98.toNat, 0]
def k0_off63 (k0_t10 : Fin k0_t10_loop.trips) : Fin 2 → Nat :=
  let c0_i32_64 : BitVec 32 := 0#32
  let c1_i32_66 : BitVec 32 := 1#32
  let arg24 : BitVec 32 := Scf.iv c0_i32_64 c1_i32_66 k0_t10
  let c128_i32 : BitVec 32 := 128#32
  let v92 : BitVec 32 := Scalar.muli arg24 c128_i32
  let v93 : BitVec 32 := v92
  let v100 : Index := Scalar.indexCast v93
  let c6 : Index := 6#32
  ![v100.toNat, 6]
def k0_off64 (k0_t10 : Fin k0_t10_loop.trips) : Fin 2 → Nat :=
  let c0_i32_64 : BitVec 32 := 0#32
  let c1_i32_66 : BitVec 32 := 1#32
  let arg24 : BitVec 32 := Scf.iv c0_i32_64 c1_i32_66 k0_t10
  let c128_i32 : BitVec 32 := 128#32
  let v92 : BitVec 32 := Scalar.muli arg24 c128_i32
  let v93 : BitVec 32 := v92
  let v102 : Index := Scalar.indexCast v93
  let c2 : Index := 2#32
  ![v102.toNat, 2]
def k0_off65 (k0_t10 : Fin k0_t10_loop.trips) : Fin 2 → Nat :=
  let c6_99 : Index := 6#32
  let c0_i32_64 : BitVec 32 := 0#32
  let c1_i32_66 : BitVec 32 := 1#32
  let arg24 : BitVec 32 := Scf.iv c0_i32_64 c1_i32_66 k0_t10
  let c128_i32 : BitVec 32 := 128#32
  let v92 : BitVec 32 := Scalar.muli arg24 c128_i32
  let v93 : BitVec 32 := v92
  let v104 : Index := Scalar.indexCast v93
  ![6, v104.toNat]
def k0_off66 (k0_t10 : Fin k0_t10_loop.trips) : Fin 2 → Nat :=
  let c2_100 : Index := 2#32
  let c0_i32_64 : BitVec 32 := 0#32
  let c1_i32_66 : BitVec 32 := 1#32
  let arg24 : BitVec 32 := Scf.iv c0_i32_64 c1_i32_66 k0_t10
  let c128_i32 : BitVec 32 := 128#32
  let v92 : BitVec 32 := Scalar.muli arg24 c128_i32
  let v93 : BitVec 32 := v92
  let v106 : Index := Scalar.indexCast v93
  ![2, v106.toNat]
def k0_mult46 (k0_t10 : Fin k0_t10_loop.trips) : BitVec 32 :=
  let c0_i32_64 : BitVec 32 := 0#32
  let c1_i32_66 : BitVec 32 := 1#32
  let arg24 : BitVec 32 := Scf.iv c0_i32_64 c1_i32_66 k0_t10
  let c128_i32_115 : BitVec 32 := 128#32
  let v170 : BitVec 32 := Scalar.muli arg24 c128_i32_115
  v170
@[reducible] def k0_t11_loop : Scf.Loop 32 :=
  let c0_i32_72 : BitVec 32 := 0#32
  let c16_i32_73 : BitVec 32 := 16#32
  let v75 : BitVec 32 := Scalar.addi c0_i32_72 c16_i32_73
  let c1_i32_74 : BitVec 32 := 1#32
  ⟨c0_i32_72, v75, c1_i32_74⟩
def k0_mult47 (k0_t11 : Fin k0_t11_loop.trips) : BitVec 32 :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32 : BitVec 32 := 128#32
  let v93 : BitVec 32 := Scalar.muli v92 c128_i32
  v93
def k0_off67 (k0_t11 : Fin k0_t11_loop.trips) : Fin 2 → Nat :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32 : BitVec 32 := 128#32
  let v93 : BitVec 32 := Scalar.muli v92 c128_i32
  let v94 : BitVec 32 := v93
  let v95 : Index := Scalar.indexCast v94
  let c0_96 : Index := 0#32
  ![v95.toNat, 0]
def k0_off68 (k0_t11 : Fin k0_t11_loop.trips) : Fin 2 → Nat :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32 : BitVec 32 := 128#32
  let v93 : BitVec 32 := Scalar.muli v92 c128_i32
  let v94 : BitVec 32 := v93
  let v99 : Index := Scalar.indexCast v94
  let c0_98 : Index := 0#32
  ![v99.toNat, 0]
def k0_off69 (k0_t11 : Fin k0_t11_loop.trips) : Fin 2 → Nat :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32 : BitVec 32 := 128#32
  let v93 : BitVec 32 := Scalar.muli v92 c128_i32
  let v94 : BitVec 32 := v93
  let v101 : Index := Scalar.indexCast v94
  let c14 : Index := 14#32
  ![v101.toNat, 14]
def k0_off70 (k0_t11 : Fin k0_t11_loop.trips) : Fin 2 → Nat :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32 : BitVec 32 := 128#32
  let v93 : BitVec 32 := Scalar.muli v92 c128_i32
  let v94 : BitVec 32 := v93
  let v103 : Index := Scalar.indexCast v94
  let c10 : Index := 10#32
  ![v103.toNat, 10]
def k0_off71 (k0_t11 : Fin k0_t11_loop.trips) : Fin 2 → Nat :=
  let c14_99 : Index := 14#32
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32 : BitVec 32 := 128#32
  let v93 : BitVec 32 := Scalar.muli v92 c128_i32
  let v94 : BitVec 32 := v93
  let v105 : Index := Scalar.indexCast v94
  ![14, v105.toNat]
def k0_off72 (k0_t11 : Fin k0_t11_loop.trips) : Fin 2 → Nat :=
  let c10_100 : Index := 10#32
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32 : BitVec 32 := 128#32
  let v93 : BitVec 32 := Scalar.muli v92 c128_i32
  let v94 : BitVec 32 := v93
  let v107 : Index := Scalar.indexCast v94
  ![10, v107.toNat]
def k0_mult48 (k0_t11 : Fin k0_t11_loop.trips) : BitVec 32 :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32_115 : BitVec 32 := 128#32
  let v171 : BitVec 32 := Scalar.muli v92 c128_i32_115
  v171
def k0_mult49 (k0_t11 : Fin k0_t11_loop.trips) : BitVec 32 :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32_121 : BitVec 32 := 128#32
  let v190 : BitVec 32 := Scalar.muli v92 c128_i32_121
  v190
def k0_off73 (k0_t11 : Fin k0_t11_loop.trips) : Fin 2 → Nat :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32_121 : BitVec 32 := 128#32
  let v190 : BitVec 32 := Scalar.muli v92 c128_i32_121
  let v191 : BitVec 32 := v190
  let v192 : Index := Scalar.indexCast v191
  let c512_122 : Index := 512#32
  ![v192.toNat, 512]
def k0_mult50 (k0_t11 : Fin k0_t11_loop.trips) : BitVec 32 :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32_123 : BitVec 32 := 128#32
  let v195 : BitVec 32 := Scalar.muli v92 c128_i32_123
  v195
def k0_off74 (k0_t11 : Fin k0_t11_loop.trips) : Fin 4 → Nat :=
  let c0_124 : Index := 0#32
  let c0_125 : Index := 0#32
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32_123 : BitVec 32 := 128#32
  let v195 : BitVec 32 := Scalar.muli v92 c128_i32_123
  let v196 : BitVec 32 := v195
  let v197 : Index := Scalar.indexCast v196
  let c512_126 : Index := 512#32
  ![0, 0, v197.toNat, 512]
def k0_mult51 (k0_t11 : Fin k0_t11_loop.trips) : BitVec 32 :=
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32_129 : BitVec 32 := 128#32
  let v208 : BitVec 32 := Scalar.muli v92 c128_i32_129
  v208
def k0_off75 (k0_t11 : Fin k0_t11_loop.trips) : Fin 3 → Nat :=
  let c0_130 : Index := 0#32
  let c15_i32 : BitVec 32 := 15#32
  let c0_i32_72 : BitVec 32 := 0#32
  let c1_i32_74 : BitVec 32 := 1#32
  let arg24 : BitVec 32 := Scf.iv c0_i32_72 c1_i32_74 k0_t11
  let v92 : BitVec 32 := Scalar.subi c15_i32 arg24
  let c128_i32_129 : BitVec 32 := 128#32
  let v208 : BitVec 32 := Scalar.muli v92 c128_i32_129
  let v209 : BitVec 32 := v208
  let v210 : Index := Scalar.indexCast v209
  let c512_131 : Index := 512#32
  ![0, v210.toNat, 512]
@[reducible] def k0_t12_loop : Scf.Loop 32 :=
  let c0_i32_76 : BitVec 32 := 0#32
  let c16_i32_77 : BitVec 32 := 16#32
  let v77 : BitVec 32 := Scalar.addi c0_i32_76 c16_i32_77
  let c1_i32_78 : BitVec 32 := 1#32
  ⟨c0_i32_76, v77, c1_i32_78⟩
def k0_mult52 (k0_t12 : Fin k0_t12_loop.trips) : BitVec 32 :=
  let c0_i32_76 : BitVec 32 := 0#32
  let c1_i32_78 : BitVec 32 := 1#32
  let arg24 : BitVec 32 := Scf.iv c0_i32_76 c1_i32_78 k0_t12
  let c128_i32 : BitVec 32 := 128#32
  let v92 : BitVec 32 := Scalar.muli arg24 c128_i32
  v92
def k0_off76 (k0_t12 : Fin k0_t12_loop.trips) : Fin 2 → Nat :=
  let c0_i32_76 : BitVec 32 := 0#32
  let c1_i32_78 : BitVec 32 := 1#32
  let arg24 : BitVec 32 := Scf.iv c0_i32_76 c1_i32_78 k0_t12
  let c128_i32 : BitVec 32 := 128#32
  let v92 : BitVec 32 := Scalar.muli arg24 c128_i32
  let v93 : BitVec 32 := v92
  let v94 : Index := Scalar.indexCast v93
  let c768 : Index := 768#32
  ![v94.toNat, 768]
def k0_mult53 (k0_t12 : Fin k0_t12_loop.trips) : BitVec 32 :=
  let c0_i32_76 : BitVec 32 := 0#32
  let c1_i32_78 : BitVec 32 := 1#32
  let arg24 : BitVec 32 := Scf.iv c0_i32_76 c1_i32_78 k0_t12
  let c128_i32_99 : BitVec 32 := 128#32
  let v100 : BitVec 32 := Scalar.muli arg24 c128_i32_99
  v100
def k0_off77 (k0_t12 : Fin k0_t12_loop.trips) : Fin 2 → Nat :=
  let c0_i32_76 : BitVec 32 := 0#32
  let c1_i32_78 : BitVec 32 := 1#32
  let arg24 : BitVec 32 := Scf.iv c0_i32_76 c1_i32_78 k0_t12
  let c128_i32_99 : BitVec 32 := 128#32
  let v100 : BitVec 32 := Scalar.muli arg24 c128_i32_99
  let v101 : BitVec 32 := v100
  let v102 : Index := Scalar.indexCast v101
  let c0_100 : Index := 0#32
  ![v102.toNat, 0]
def k0_mult54 (k0_t12 : Fin k0_t12_loop.trips) : BitVec 32 :=
  let c0_i32_76 : BitVec 32 := 0#32
  let c1_i32_78 : BitVec 32 := 1#32
  let arg24 : BitVec 32 := Scf.iv c0_i32_76 c1_i32_78 k0_t12
  let c128_i32_106 : BitVec 32 := 128#32
  let v112 : BitVec 32 := Scalar.muli arg24 c128_i32_106
  v112
def k0_mult55 (k0_t12 : Fin k0_t12_loop.trips) : BitVec 32 :=
  let c0_i32_76 : BitVec 32 := 0#32
  let c1_i32_78 : BitVec 32 := 1#32
  let arg24 : BitVec 32 := Scf.iv c0_i32_76 c1_i32_78 k0_t12
  let c128_i32_108 : BitVec 32 := 128#32
  let v118 : BitVec 32 := Scalar.muli arg24 c128_i32_108
  v118
def k0_off78 (k0_t12 : Fin k0_t12_loop.trips) : Fin 4 → Nat :=
  let c0_109 : Index := 0#32
  let c0_110 : Index := 0#32
  let c0_i32_76 : BitVec 32 := 0#32
  let c1_i32_78 : BitVec 32 := 1#32
  let arg24 : BitVec 32 := Scf.iv c0_i32_76 c1_i32_78 k0_t12
  let c128_i32_108 : BitVec 32 := 128#32
  let v118 : BitVec 32 := Scalar.muli arg24 c128_i32_108
  let v119 : BitVec 32 := v118
  let v120 : Index := Scalar.indexCast v119
  let c768_111 : Index := 768#32
  ![0, 0, v120.toNat, 768]
def k0_mult56 (k0_t12 : Fin k0_t12_loop.trips) : BitVec 32 :=
  let c0_i32_76 : BitVec 32 := 0#32
  let c1_i32_78 : BitVec 32 := 1#32
  let arg24 : BitVec 32 := Scf.iv c0_i32_76 c1_i32_78 k0_t12
  let c128_i32_116 : BitVec 32 := 128#32
  let v127 : BitVec 32 := Scalar.muli arg24 c128_i32_116
  v127
def k0_off79 (k0_t12 : Fin k0_t12_loop.trips) : Fin 2 → Nat :=
  let c0_i32_76 : BitVec 32 := 0#32
  let c1_i32_78 : BitVec 32 := 1#32
  let arg24 : BitVec 32 := Scf.iv c0_i32_76 c1_i32_78 k0_t12
  let c128_i32_116 : BitVec 32 := 128#32
  let v127 : BitVec 32 := Scalar.muli arg24 c128_i32_116
  let v128 : BitVec 32 := v127
  let v129 : Index := Scalar.indexCast v128
  let c0_117 : Index := 0#32
  ![v129.toNat, 0]
@[reducible] def k0_t13_loop : Scf.Loop 32 :=
  let c0_i32_84 : BitVec 32 := 0#32
  let c16_i32_85 : BitVec 32 := 16#32
  let v83 : BitVec 32 := Scalar.addi c0_i32_84 c16_i32_85
  let c1_i32_86 : BitVec 32 := 1#32
  ⟨c0_i32_84, v83, c1_i32_86⟩
def k0_mult57 (k0_t13 : Fin k0_t13_loop.trips) : BitVec 32 :=
  let c0_i32_84 : BitVec 32 := 0#32
  let c1_i32_86 : BitVec 32 := 1#32
  let arg24 : BitVec 32 := Scf.iv c0_i32_84 c1_i32_86 k0_t13
  let c128_i32 : BitVec 32 := 128#32
  let v92 : BitVec 32 := Scalar.muli arg24 c128_i32
  v92
def k0_off80 (k0_t13 : Fin k0_t13_loop.trips) : Fin 2 → Nat :=
  let c0_i32_84 : BitVec 32 := 0#32
  let c1_i32_86 : BitVec 32 := 1#32
  let arg24 : BitVec 32 := Scf.iv c0_i32_84 c1_i32_86 k0_t13
  let c128_i32 : BitVec 32 := 128#32
  let v92 : BitVec 32 := Scalar.muli arg24 c128_i32
  let v93 : BitVec 32 := v92
  let v94 : Index := Scalar.indexCast v93
  let c0_96 : Index := 0#32
  ![v94.toNat, 0]
def k0_off81 (k0_t13 : Fin k0_t13_loop.trips) : Fin 2 → Nat :=
  let c0_i32_84 : BitVec 32 := 0#32
  let c1_i32_86 : BitVec 32 := 1#32
  let arg24 : BitVec 32 := Scf.iv c0_i32_84 c1_i32_86 k0_t13
  let c128_i32 : BitVec 32 := 128#32
  let v92 : BitVec 32 := Scalar.muli arg24 c128_i32
  let v93 : BitVec 32 := v92
  let v98 : Index := Scalar.indexCast v93
  let c0_98 : Index := 0#32
  ![v98.toNat, 0]
def k0_off82 (k0_t13 : Fin k0_t13_loop.trips) : Fin 2 → Nat :=
  let c0_i32_84 : BitVec 32 := 0#32
  let c1_i32_86 : BitVec 32 := 1#32
  let arg24 : BitVec 32 := Scf.iv c0_i32_84 c1_i32_86 k0_t13
  let c128_i32 : BitVec 32 := 128#32
  let v92 : BitVec 32 := Scalar.muli arg24 c128_i32
  let v93 : BitVec 32 := v92
  let v100 : Index := Scalar.indexCast v93
  let c7 : Index := 7#32
  ![v100.toNat, 7]
def k0_off83 (k0_t13 : Fin k0_t13_loop.trips) : Fin 2 → Nat :=
  let c0_i32_84 : BitVec 32 := 0#32
  let c1_i32_86 : BitVec 32 := 1#32
  let arg24 : BitVec 32 := Scf.iv c0_i32_84 c1_i32_86 k0_t13
  let c128_i32 : BitVec 32 := 128#32
  let v92 : BitVec 32 := Scalar.muli arg24 c128_i32
  let v93 : BitVec 32 := v92
  let v102 : Index := Scalar.indexCast v93
  let c3 : Index := 3#32
  ![v102.toNat, 3]
def k0_off84 (k0_t13 : Fin k0_t13_loop.trips) : Fin 2 → Nat :=
  let c7_99 : Index := 7#32
  let c0_i32_84 : BitVec 32 := 0#32
  let c1_i32_86 : BitVec 32 := 1#32
  let arg24 : BitVec 32 := Scf.iv c0_i32_84 c1_i32_86 k0_t13
  let c128_i32 : BitVec 32 := 128#32
  let v92 : BitVec 32 := Scalar.muli arg24 c128_i32
  let v93 : BitVec 32 := v92
  let v104 : Index := Scalar.indexCast v93
  ![7, v104.toNat]
def k0_off85 (k0_t13 : Fin k0_t13_loop.trips) : Fin 2 → Nat :=
  let c3_100 : Index := 3#32
  let c0_i32_84 : BitVec 32 := 0#32
  let c1_i32_86 : BitVec 32 := 1#32
  let arg24 : BitVec 32 := Scf.iv c0_i32_84 c1_i32_86 k0_t13
  let c128_i32 : BitVec 32 := 128#32
  let v92 : BitVec 32 := Scalar.muli arg24 c128_i32
  let v93 : BitVec 32 := v92
  let v106 : Index := Scalar.indexCast v93
  ![3, v106.toNat]
def k0_mult58 (k0_t13 : Fin k0_t13_loop.trips) : BitVec 32 :=
  let c0_i32_84 : BitVec 32 := 0#32
  let c1_i32_86 : BitVec 32 := 1#32
  let arg24 : BitVec 32 := Scf.iv c0_i32_84 c1_i32_86 k0_t13
  let c128_i32_115 : BitVec 32 := 128#32
  let v170 : BitVec 32 := Scalar.muli arg24 c128_i32_115
  v170
@[reducible] def k0_t14_loop : Scf.Loop 32 :=
  let c0_i32_92 : BitVec 32 := 0#32
  let c16_i32_93 : BitVec 32 := 16#32
  let v90 : BitVec 32 := Scalar.addi c0_i32_92 c16_i32_93
  let c1_i32_94 : BitVec 32 := 1#32
  ⟨c0_i32_92, v90, c1_i32_94⟩
def k0_mult59 (k0_t14 : Fin k0_t14_loop.trips) : BitVec 32 :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32 : BitVec 32 := 128#32
  let v93 : BitVec 32 := Scalar.muli v92 c128_i32
  v93
def k0_off86 (k0_t14 : Fin k0_t14_loop.trips) : Fin 2 → Nat :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32 : BitVec 32 := 128#32
  let v93 : BitVec 32 := Scalar.muli v92 c128_i32
  let v94 : BitVec 32 := v93
  let v95 : Index := Scalar.indexCast v94
  let c0_96 : Index := 0#32
  ![v95.toNat, 0]
def k0_off87 (k0_t14 : Fin k0_t14_loop.trips) : Fin 2 → Nat :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32 : BitVec 32 := 128#32
  let v93 : BitVec 32 := Scalar.muli v92 c128_i32
  let v94 : BitVec 32 := v93
  let v99 : Index := Scalar.indexCast v94
  let c0_98 : Index := 0#32
  ![v99.toNat, 0]
def k0_off88 (k0_t14 : Fin k0_t14_loop.trips) : Fin 2 → Nat :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32 : BitVec 32 := 128#32
  let v93 : BitVec 32 := Scalar.muli v92 c128_i32
  let v94 : BitVec 32 := v93
  let v101 : Index := Scalar.indexCast v94
  let c15 : Index := 15#32
  ![v101.toNat, 15]
def k0_off89 (k0_t14 : Fin k0_t14_loop.trips) : Fin 2 → Nat :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32 : BitVec 32 := 128#32
  let v93 : BitVec 32 := Scalar.muli v92 c128_i32
  let v94 : BitVec 32 := v93
  let v103 : Index := Scalar.indexCast v94
  let c11 : Index := 11#32
  ![v103.toNat, 11]
def k0_off90 (k0_t14 : Fin k0_t14_loop.trips) : Fin 2 → Nat :=
  let c15_99 : Index := 15#32
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32 : BitVec 32 := 128#32
  let v93 : BitVec 32 := Scalar.muli v92 c128_i32
  let v94 : BitVec 32 := v93
  let v105 : Index := Scalar.indexCast v94
  ![15, v105.toNat]
def k0_off91 (k0_t14 : Fin k0_t14_loop.trips) : Fin 2 → Nat :=
  let c11_100 : Index := 11#32
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32 : BitVec 32 := 128#32
  let v93 : BitVec 32 := Scalar.muli v92 c128_i32
  let v94 : BitVec 32 := v93
  let v107 : Index := Scalar.indexCast v94
  ![11, v107.toNat]
def k0_mult60 (k0_t14 : Fin k0_t14_loop.trips) : BitVec 32 :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32_115 : BitVec 32 := 128#32
  let v171 : BitVec 32 := Scalar.muli v92 c128_i32_115
  v171
def k0_mult61 (k0_t14 : Fin k0_t14_loop.trips) : BitVec 32 :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32_121 : BitVec 32 := 128#32
  let v190 : BitVec 32 := Scalar.muli v92 c128_i32_121
  v190
def k0_off92 (k0_t14 : Fin k0_t14_loop.trips) : Fin 2 → Nat :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32_121 : BitVec 32 := 128#32
  let v190 : BitVec 32 := Scalar.muli v92 c128_i32_121
  let v191 : BitVec 32 := v190
  let v192 : Index := Scalar.indexCast v191
  let c768_122 : Index := 768#32
  ![v192.toNat, 768]
def k0_mult62 (k0_t14 : Fin k0_t14_loop.trips) : BitVec 32 :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32_123 : BitVec 32 := 128#32
  let v195 : BitVec 32 := Scalar.muli v92 c128_i32_123
  v195
def k0_off93 (k0_t14 : Fin k0_t14_loop.trips) : Fin 4 → Nat :=
  let c0_124 : Index := 0#32
  let c0_125 : Index := 0#32
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32_123 : BitVec 32 := 128#32
  let v195 : BitVec 32 := Scalar.muli v92 c128_i32_123
  let v196 : BitVec 32 := v195
  let v197 : Index := Scalar.indexCast v196
  let c768_126 : Index := 768#32
  ![0, 0, v197.toNat, 768]
def k0_mult63 (k0_t14 : Fin k0_t14_loop.trips) : BitVec 32 :=
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32_129 : BitVec 32 := 128#32
  let v208 : BitVec 32 := Scalar.muli v92 c128_i32_129
  v208
def k0_off94 (k0_t14 : Fin k0_t14_loop.trips) : Fin 3 → Nat :=
  let c0_130 : Index := 0#32
  let c15_i32 : BitVec 32 := 15#32
  let c0_i32_92 : BitVec 32 := 0#32
  let c1_i32_94 : BitVec 32 := 1#32
  let arg24 : BitVec 32 := Scf.iv c0_i32_92 c1_i32_94 k0_t14
  let v92 : BitVec 32 := Scalar.subi c15_i32 arg24
  let c128_i32_129 : BitVec 32 := 128#32
  let v208 : BitVec 32 := Scalar.muli v92 c128_i32_129
  let v209 : BitVec 32 := v208
  let v210 : Index := Scalar.indexCast v209
  let c768_131 : Index := 768#32
  ![0, v210.toNat, 768]
def cc0_transform_0 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_1 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x2048x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRoute.lean ====
abbrev S4096x1024 : Shape := ⟨2, ![4096, 1024]⟩
abbrev S5x2x2048x1024 : Shape := ⟨4, ![5, 2, 2048, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S1x1024 : Shape := ⟨2, ![1, 1024]⟩
abbrev S5x4096x1024 : Shape := ⟨3, ![5, 4096, 1024]⟩
abbrev S4096x512 : Shape := ⟨2, ![4096, 512]⟩
abbrev S4096x128 : Shape := ⟨2, ![4096, 128]⟩
abbrev S256x1024 : Shape := ⟨2, ![256, 1024]⟩
abbrev S1x256x1024 : Shape := ⟨3, ![1, 256, 1024]⟩
abbrev S256x512 : Shape := ⟨2, ![256, 512]⟩
abbrev S256x128 : Shape := ⟨2, ![256, 128]⟩
abbrev S256x2048 : Shape := ⟨2, ![256, 2048]⟩
abbrev S16x16x256 : Shape := ⟨3, ![16, 16, 256]⟩
abbrev S16x256 : Shape := ⟨2, ![16, 256]⟩
abbrev S128x256 : Shape := ⟨2, ![128, 256]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S1x256 : Shape := ⟨2, ![1, 256]⟩
abbrev S1x1x256 : Shape := ⟨3, ![1, 1, 256]⟩
abbrev S1x16x256 : Shape := ⟨3, ![1, 16, 256]⟩
abbrev S8x256 : Shape := ⟨2, ![8, 256]⟩
abbrev S80x256 : Shape := ⟨2, ![80, 256]⟩

abbrev nBuf : Space → Nat
  | .hbm => 21
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S5x2x2048x1024, .bf16⟩
  | .hbm, ⟨2, _⟩ => ⟨S4096x1024, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S8x2x128x128, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x2048, .bf16⟩
  | .hbm, ⟨13, _⟩ => ⟨S16x128x128, .f32⟩
  | .hbm, ⟨14, _⟩ => ⟨S16x128x128, .bf16⟩
  | .hbm, ⟨15, _⟩ => ⟨S1x1024, .f32⟩
  | .hbm, ⟨16, _⟩ => ⟨S5x4096x1024, .bf16⟩
  | .hbm, ⟨17, _⟩ => ⟨S4096x1024, .f32⟩
  | .hbm, ⟨18, _⟩ => ⟨S4096x512, .i32⟩
  | .hbm, ⟨19, _⟩ => ⟨S4096x128, .i32⟩
  | .hbm, ⟨20, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S16x128x128, .bf16⟩
  | .local _ .vmem, ⟨16, _⟩ => ⟨S256x1024, .f32⟩
  | .local _ .vmem, ⟨17, _⟩ => ⟨S256x1024, .f32⟩
  | .local _ .vmem, ⟨18, _⟩ => ⟨S256x512, .i32⟩
  | .local _ .vmem, ⟨19, _⟩ => ⟨S256x512, .i32⟩
  | .local _ .vmem, ⟨20, _⟩ => ⟨S256x128, .i32⟩
  | .local _ .vmem, ⟨21, _⟩ => ⟨S256x128, .i32⟩
  | .local _ .vmem, ⟨22, _⟩ => ⟨S256x128, .f32⟩
  | .local _ .vmem, ⟨23, _⟩ => ⟨S256x128, .f32⟩
  | .local _ .vmem, ⟨24, _⟩ => ⟨S256x2048, .bf16⟩
  | .local _ .vmem, ⟨25, _⟩ => ⟨S16x16x256, .f32⟩
  | .local _ .vmem, ⟨26, _⟩ => ⟨S16x16x256, .f32⟩
  | .local _ .vmem, ⟨27, _⟩ => ⟨S16x256, .f32⟩
  | .local _ .vmem, ⟨28, _⟩ => ⟨S16x256, .f32⟩
  | .local _ .vmem, ⟨29, _⟩ => ⟨S128x256, .f32⟩
  | .local _ .vmem, ⟨30, _⟩ => ⟨S128x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c16_i32_36 : BitVec 32 := 16#32
  let v61 : BitVec 32 := Scalar.addi c0_i32 c16_i32_36
  let c1_i32 : BitVec 32 := 1#32
  ⟨c0_i32, v61, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32 : BitVec 32 := 128#32
  let v70 : BitVec 32 := Scalar.muli arg23 c128_i32
  v70
def k0_off1 (k0_t1 : Fin k0_t1_loop.trips) : Fin 2 → Nat :=
  let c0_49 : Index := 0#32
  let c0_i32 : BitVec 32 := 0#32
  let c1_i32 : BitVec 32 := 1#32
  let arg23 : BitVec 32 := Scf.iv c0_i32 c1_i32 k0_t1
  let c128_i32 : BitVec 32 := 128#32
  let v70 : BitVec 32 := Scalar.muli arg23 c128_i32
  let v71 : BitVec 32 := v70
  let v72 : Index := Scalar.indexCast v71
  ![0, v72.toNat]
def k0_off2 (k0_t1 : Fin k0_t1_loop.trips) : Fin 3 → Nat :=
  let c0_i32 : BitVec 32 := 0#32
  let c1_i32 : BitVec 32 := 1#32
  let arg23 : BitVec 32 := Scf.iv c0_i32 c1_i32 k0_t1
  let v74 : Index := Scalar.indexCast arg23
  let c0_50 : Index := 0#32
  let c0_51 : Index := 0#32
  ![v74.toNat, 0, 0]
def k0_off3 (k0_t1 : Fin k0_t1_loop.trips) : Fin 3 → Nat :=
  let c0_i32 : BitVec 32 := 0#32
  let c1_i32 : BitVec 32 := 1#32
  let arg23 : BitVec 32 := Scf.iv c0_i32 c1_i32 k0_t1
  let v88 : Index := Scalar.indexCast arg23
  let c0_56 : Index := 0#32
  let c0_57 : Index := 0#32
  ![v88.toNat, 0, 0]
def k0_off4 (k0_t1 : Fin k0_t1_loop.trips) : Fin 3 → Nat :=
  let c0_i32 : BitVec 32 := 0#32
  let c1_i32 : BitVec 32 := 1#32
  let arg23 : BitVec 32 := Scf.iv c0_i32 c1_i32 k0_t1
  let v108 : Index := Scalar.indexCast arg23
  let c1 : Index := 1#32
  let c0_64 : Index := 0#32
  ![v108.toNat, 1, 0]
def k0_off5 (k0_t1 : Fin k0_t1_loop.trips) : Fin 3 → Nat :=
  let c0_i32 : BitVec 32 := 0#32
  let c1_i32 : BitVec 32 := 1#32
  let arg23 : BitVec 32 := Scf.iv c0_i32 c1_i32 k0_t1
  let v128 : Index := Scalar.indexCast arg23
  let c2 : Index := 2#32
  let c0_71 : Index := 0#32
  ![v128.toNat, 2, 0]
def k0_off6 (k0_t1 : Fin k0_t1_loop.trips) : Fin 3 → Nat :=
  let c0_i32 : BitVec 32 := 0#32
  let c1_i32 : BitVec 32 := 1#32
  let arg23 : BitVec 32 := Scf.iv c0_i32 c1_i32 k0_t1
  let v148 : Index := Scalar.indexCast arg23
  let c3 : Index := 3#32
  let c0_78 : Index := 0#32
  ![v148.toNat, 3, 0]
def k0_off7 (k0_t1 : Fin k0_t1_loop.trips) : Fin 3 → Nat :=
  let c0_i32 : BitVec 32 := 0#32
  let c1_i32 : BitVec 32 := 1#32
  let arg23 : BitVec 32 := Scf.iv c0_i32 c1_i32 k0_t1
  let v168 : Index := Scalar.indexCast arg23
  let c4 : Index := 4#32
  let c0_85 : Index := 0#32
  ![v168.toNat, 4, 0]
def k0_off8 (k0_t1 : Fin k0_t1_loop.trips) : Fin 3 → Nat :=
  let c0_i32 : BitVec 32 := 0#32
  let c1_i32 : BitVec 32 := 1#32
  let arg23 : BitVec 32 := Scf.iv c0_i32 c1_i32 k0_t1
  let v188 : Index := Scalar.indexCast arg23
  let c5 : Index := 5#32
  let c0_92 : Index := 0#32
  ![v188.toNat, 5, 0]
def k0_off9 (k0_t1 : Fin k0_t1_loop.trips) : Fin 3 → Nat :=
  let c0_i32 : BitVec 32 := 0#32
  let c1_i32 : BitVec 32 := 1#32
  let arg23 : BitVec 32 := Scf.iv c0_i32 c1_i32 k0_t1
  let v208 : Index := Scalar.indexCast arg23
  let c6 : Index := 6#32
  let c0_99 : Index := 0#32
  ![v208.toNat, 6, 0]
def k0_off10 (k0_t1 : Fin k0_t1_loop.trips) : Fin 3 → Nat :=
  let c0_i32 : BitVec 32 := 0#32
  let c1_i32 : BitVec 32 := 1#32
  let arg23 : BitVec 32 := Scf.iv c0_i32 c1_i32 k0_t1
  let v228 : Index := Scalar.indexCast arg23
  let c7 : Index := 7#32
  let c0_106 : Index := 0#32
  ![v228.toNat, 7, 0]
def k0_off11 (k0_t1 : Fin k0_t1_loop.trips) : Fin 3 → Nat :=
  let c0_i32 : BitVec 32 := 0#32
  let c1_i32 : BitVec 32 := 1#32
  let arg23 : BitVec 32 := Scf.iv c0_i32 c1_i32 k0_t1
  let v248 : Index := Scalar.indexCast arg23
  let c8 : Index := 8#32
  let c0_113 : Index := 0#32
  ![v248.toNat, 8, 0]
def k0_off12 (k0_t1 : Fin k0_t1_loop.trips) : Fin 3 → Nat :=
  let c0_i32 : BitVec 32 := 0#32
  let c1_i32 : BitVec 32 := 1#32
  let arg23 : BitVec 32 := Scf.iv c0_i32 c1_i32 k0_t1
  let v268 : Index := Scalar.indexCast arg23
  let c9 : Index := 9#32
  let c0_120 : Index := 0#32
  ![v268.toNat, 9, 0]
def k0_off13 (k0_t1 : Fin k0_t1_loop.trips) : Fin 3 → Nat :=
  let c0_i32 : BitVec 32 := 0#32
  let c1_i32 : BitVec 32 := 1#32
  let arg23 : BitVec 32 := Scf.iv c0_i32 c1_i32 k0_t1
  let v288 : Index := Scalar.indexCast arg23
  let c10 : Index := 10#32
  let c0_127 : Index := 0#32
  ![v288.toNat, 10, 0]
def k0_off14 (k0_t1 : Fin k0_t1_loop.trips) : Fin 3 → Nat :=
  let c0_i32 : BitVec 32 := 0#32
  let c1_i32 : BitVec 32 := 1#32
  let arg23 : BitVec 32 := Scf.iv c0_i32 c1_i32 k0_t1
  let v308 : Index := Scalar.indexCast arg23
  let c11 : Index := 11#32
  let c0_134 : Index := 0#32
  ![v308.toNat, 11, 0]
def k0_off15 (k0_t1 : Fin k0_t1_loop.trips) : Fin 3 → Nat :=
  let c0_i32 : BitVec 32 := 0#32
  let c1_i32 : BitVec 32 := 1#32
  let arg23 : BitVec 32 := Scf.iv c0_i32 c1_i32 k0_t1
  let v328 : Index := Scalar.indexCast arg23
  let c12 : Index := 12#32
  let c0_141 : Index := 0#32
  ![v328.toNat, 12, 0]
def k0_off16 (k0_t1 : Fin k0_t1_loop.trips) : Fin 3 → Nat :=
  let c0_i32 : BitVec 32 := 0#32
  let c1_i32 : BitVec 32 := 1#32
  let arg23 : BitVec 32 := Scf.iv c0_i32 c1_i32 k0_t1
  let v348 : Index := Scalar.indexCast arg23
  let c13 : Index := 13#32
  let c0_148 : Index := 0#32
  ![v348.toNat, 13, 0]
def k0_off17 (k0_t1 : Fin k0_t1_loop.trips) : Fin 3 → Nat :=
  let c0_i32 : BitVec 32 := 0#32
  let c1_i32 : BitVec 32 := 1#32
  let arg23 : BitVec 32 := Scf.iv c0_i32 c1_i32 k0_t1
  let v368 : Index := Scalar.indexCast arg23
  let c14 : Index := 14#32
  let c0_155 : Index := 0#32
  ![v368.toNat, 14, 0]
def k0_off18 (k0_t1 : Fin k0_t1_loop.trips) : Fin 3 → Nat :=
  let c0_i32 : BitVec 32 := 0#32
  let c1_i32 : BitVec 32 := 1#32
  let arg23 : BitVec 32 := Scf.iv c0_i32 c1_i32 k0_t1
  let v388 : Index := Scalar.indexCast arg23
  let c15 : Index := 15#32
  let c0_162 : Index := 0#32
  ![v388.toNat, 15, 0]
@[reducible] def k0_t2_loop : Scf.Loop 32 :=
  let c0_i32_38 : BitVec 32 := 0#32
  let c8_i32 : BitVec 32 := 8#32
  let v62 : BitVec 32 := Scalar.addi c0_i32_38 c8_i32
  let c1_i32_39 : BitVec 32 := 1#32
  ⟨c0_i32_38, v62, c1_i32_39⟩
def k0_off19 (k0_t2 : Fin k0_t2_loop.trips) : Fin 3 → Nat :=
  let c2_i32 : BitVec 32 := 2#32
  let c0_i32_38 : BitVec 32 := 0#32
  let c1_i32_39 : BitVec 32 := 1#32
  let arg23 : BitVec 32 := Scf.iv c0_i32_38 c1_i32_39 k0_t2
  let v70 : BitVec 32 := Scalar.muli c2_i32 arg23
  let v71 : Index := Scalar.indexCast v70
  let c0_49 : Index := 0#32
  let c0_50 : Index := 0#32
  ![v71.toNat, 0, 0]
def k0_off20 (k0_t2 : Fin k0_t2_loop.trips) : Fin 3 → Nat :=
  let c2_i32_51 : BitVec 32 := 2#32
  let c0_i32_38 : BitVec 32 := 0#32
  let c1_i32_39 : BitVec 32 := 1#32
  let arg23 : BitVec 32 := Scf.iv c0_i32_38 c1_i32_39 k0_t2
  let v74 : BitVec 32 := Scalar.muli c2_i32_51 arg23
  let c1_i32_52 : BitVec 32 := 1#32
  let v75 : BitVec 32 := Scalar.addi v74 c1_i32_52
  let v76 : Index := Scalar.indexCast v75
  let c0_53 : Index := 0#32
  let c0_54 : Index := 0#32
  ![v76.toNat, 0, 0]
def k0_mult2 (k0_t2 : Fin k0_t2_loop.trips) : BitVec 32 :=
  let c0_i32_38 : BitVec 32 := 0#32
  let c1_i32_39 : BitVec 32 := 1#32
  let arg23 : BitVec 32 := Scf.iv c0_i32_38 c1_i32_39 k0_t2
  let c16_i32_230 : BitVec 32 := 16#32
  let v576 : BitVec 32 := Scalar.muli arg23 c16_i32_230
  v576
def k0_off21 (k0_t2 : Fin k0_t2_loop.trips) : Fin 2 → Nat :=
  let c0_i32_38 : BitVec 32 := 0#32
  let c1_i32_39 : BitVec 32 := 1#32
  let arg23 : BitVec 32 := Scf.iv c0_i32_38 c1_i32_39 k0_t2
  let c16_i32_230 : BitVec 32 := 16#32
  let v576 : BitVec 32 := Scalar.muli arg23 c16_i32_230
  let v577 : BitVec 32 := v576
  let v582 : Index := Scalar.indexCast v577
  let c0_232 : Index := 0#32
  ![v582.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRouteIdeal.lean ====
abbrev S4096x1024 : Shape := ⟨2, ![4096, 1024]⟩
abbrev S5x2x2048x1024 : Shape := ⟨4, ![5, 2, 2048, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S1x1024 : Shape := ⟨2, ![1, 1024]⟩
abbrev S5x4096x1024 : Shape := ⟨3, ![5, 4096, 1024]⟩
abbrev S4096x2x512 : Shape := ⟨3, ![4096, 2, 512]⟩
abbrev S4096x128 : Shape := ⟨2, ![4096, 128]⟩
abbrev S4096x1x512 : Shape := ⟨3, ![4096, 1, 512]⟩
abbrev S4096x512 : Shape := ⟨2, ![4096, 512]⟩
abbrev S256x1024 : Shape := ⟨2, ![256, 1024]⟩
abbrev S1x256x1024 : Shape := ⟨3, ![1, 256, 1024]⟩
abbrev S256x512 : Shape := ⟨2, ![256, 512]⟩
abbrev S256x2x512 : Shape := ⟨3, ![256, 2, 512]⟩
abbrev S256x1x512 : Shape := ⟨3, ![256, 1, 512]⟩
abbrev S256x128 : Shape := ⟨2, ![256, 128]⟩
abbrev S256x2048 : Shape := ⟨2, ![256, 2048]⟩
abbrev S16x16x256 : Shape := ⟨3, ![16, 16, 256]⟩
abbrev S16x256 : Shape := ⟨2, ![16, 256]⟩
abbrev S128x256 : Shape := ⟨2, ![128, 256]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S1x256 : Shape := ⟨2, ![1, 256]⟩
abbrev S1x1x256 : Shape := ⟨3, ![1, 1, 256]⟩
abbrev S1x16x256 : Shape := ⟨3, ![1, 16, 256]⟩
abbrev S8x256 : Shape := ⟨2, ![8, 256]⟩
abbrev S80x256 : Shape := ⟨2, ![80, 256]⟩

abbrev nBuf : Space → Nat
  | .hbm => 21
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S5x2x2048x1024, .bf16⟩
  | .hbm, ⟨2, _⟩ => ⟨S4096x1024, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S8x2x128x128, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x2048, .bf16⟩
  | .hbm, ⟨13, _⟩ => ⟨S16x128x128, .f32⟩
  | .hbm, ⟨14, _⟩ => ⟨S16x128x128, .bf16⟩
  | .hbm, ⟨15, _⟩ => ⟨S1x1024, .f32⟩
  | .hbm, ⟨16, _⟩ => ⟨S5x4096x1024, .bf16⟩
  | .hbm, ⟨17, _⟩ => ⟨S4096x1024, .f32⟩
  | .hbm, ⟨18, _⟩ => ⟨S4096x2x512, .bf16⟩
  | .hbm, ⟨19, _⟩ => ⟨S4096x128, .i32⟩
  | .hbm, ⟨20, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S16x128x128, .bf16⟩
  | .local _ .vmem, ⟨16, _⟩ => ⟨S256x1024, .f32⟩
  | .local _ .vmem, ⟨17, _⟩ => ⟨S256x1024, .f32⟩
  | .local _ .vmem, ⟨18, _⟩ => ⟨S256x2x512, .bf16⟩
  | .local _ .vmem, ⟨19, _⟩ => ⟨S256x2x512, .bf16⟩
  | .local _ .vmem, ⟨20, _⟩ => ⟨S256x128, .i32⟩
  | .local _ .vmem, ⟨21, _⟩ => ⟨S256x128, .i32⟩
  | .local _ .vmem, ⟨22, _⟩ => ⟨S256x128, .f32⟩
  | .local _ .vmem, ⟨23, _⟩ => ⟨S256x128, .f32⟩
  | .local _ .vmem, ⟨24, _⟩ => ⟨S256x2048, .bf16⟩
  | .local _ .vmem, ⟨25, _⟩ => ⟨S16x16x256, .f32⟩
  | .local _ .vmem, ⟨26, _⟩ => ⟨S16x16x256, .f32⟩
  | .local _ .vmem, ⟨27, _⟩ => ⟨S16x256, .f32⟩
  | .local _ .vmem, ⟨28, _⟩ => ⟨S16x256, .f32⟩
  | .local _ .vmem, ⟨29, _⟩ => ⟨S128x256, .f32⟩
  | .local _ .vmem, ⟨30, _⟩ => ⟨S128x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32_36 : BitVec 32 := 16#32
  let v61 : BitVec 32 := Scalar.addi c0_i32 c16_i32_36
  let c1_i32 : BitVec 32 := 1#32
  ⟨c0_i32, v61, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32 : BitVec 32 := 128#32
  let v70 : BitVec 32 := Scalar.muli arg23 c128_i32
  v70
def k0_off1 (k0_t1 : Fin k0_t1_loop.trips) : Fin 2 → Nat :=
  let c0_49 : Index := 0#32
  let c0_i32 : BitVec 32 := 0#32
  let c1_i32 : BitVec 32 := 1#32
  let arg23 : BitVec 32 := Scf.iv c0_i32 c1_i32 k0_t1
  let c128_i32 : BitVec 32 := 128#32
  let v70 : BitVec 32 := Scalar.muli arg23 c128_i32
  let v71 : BitVec 32 := v70
  let v72 : Index := Scalar.indexCast v71
  ![0, v72.toNat]
def k0_off2 (k0_t1 : Fin k0_t1_loop.trips) : Fin 3 → Nat :=
  let c0_i32 : BitVec 32 := 0#32
  let c1_i32 : BitVec 32 := 1#32
  let arg23 : BitVec 32 := Scf.iv c0_i32 c1_i32 k0_t1
  let v74 : Index := Scalar.indexCast arg23
  let c0_50 : Index := 0#32
  let c0_51 : Index := 0#32
  ![v74.toNat, 0, 0]
def k0_off3 (k0_t1 : Fin k0_t1_loop.trips) : Fin 3 → Nat :=
  let c0_i32 : BitVec 32 := 0#32
  let c1_i32 : BitVec 32 := 1#32
  let arg23 : BitVec 32 := Scf.iv c0_i32 c1_i32 k0_t1
  let v88 : Index := Scalar.indexCast arg23
  let c0_56 : Index := 0#32
  let c0_57 : Index := 0#32
  ![v88.toNat, 0, 0]
def k0_off4 (k0_t1 : Fin k0_t1_loop.trips) : Fin 3 → Nat :=
  let c0_i32 : BitVec 32 := 0#32
  let c1_i32 : BitVec 32 := 1#32
  let arg23 : BitVec 32 := Scf.iv c0_i32 c1_i32 k0_t1
  let v108 : Index := Scalar.indexCast arg23
  let c1 : Index := 1#32
  let c0_64 : Index := 0#32
  ![v108.toNat, 1, 0]
def k0_off5 (k0_t1 : Fin k0_t1_loop.trips) : Fin 3 → Nat :=
  let c0_i32 : BitVec 32 := 0#32
  let c1_i32 : BitVec 32 := 1#32
  let arg23 : BitVec 32 := Scf.iv c0_i32 c1_i32 k0_t1
  let v128 : Index := Scalar.indexCast arg23
  let c2 : Index := 2#32
  let c0_71 : Index := 0#32
  ![v128.toNat, 2, 0]
def k0_off6 (k0_t1 : Fin k0_t1_loop.trips) : Fin 3 → Nat :=
  let c0_i32 : BitVec 32 := 0#32
  let c1_i32 : BitVec 32 := 1#32
  let arg23 : BitVec 32 := Scf.iv c0_i32 c1_i32 k0_t1
  let v148 : Index := Scalar.indexCast arg23
  let c3 : Index := 3#32
  let c0_78 : Index := 0#32
  ![v148.toNat, 3, 0]
def k0_off7 (k0_t1 : Fin k0_t1_loop.trips) : Fin 3 → Nat :=
  let c0_i32 : BitVec 32 := 0#32
  let c1_i32 : BitVec 32 := 1#32
  let arg23 : BitVec 32 := Scf.iv c0_i32 c1_i32 k0_t1
  let v168 : Index := Scalar.indexCast arg23
  let c4 : Index := 4#32
  let c0_85 : Index := 0#32
  ![v168.toNat, 4, 0]
def k0_off8 (k0_t1 : Fin k0_t1_loop.trips) : Fin 3 → Nat :=
  let c0_i32 : BitVec 32 := 0#32
  let c1_i32 : BitVec 32 := 1#32
  let arg23 : BitVec 32 := Scf.iv c0_i32 c1_i32 k0_t1
  let v188 : Index := Scalar.indexCast arg23
  let c5 : Index := 5#32
  let c0_92 : Index := 0#32
  ![v188.toNat, 5, 0]
def k0_off9 (k0_t1 : Fin k0_t1_loop.trips) : Fin 3 → Nat :=
  let c0_i32 : BitVec 32 := 0#32
  let c1_i32 : BitVec 32 := 1#32
  let arg23 : BitVec 32 := Scf.iv c0_i32 c1_i32 k0_t1
  let v208 : Index := Scalar.indexCast arg23
  let c6 : Index := 6#32
  let c0_99 : Index := 0#32
  ![v208.toNat, 6, 0]
def k0_off10 (k0_t1 : Fin k0_t1_loop.trips) : Fin 3 → Nat :=
  let c0_i32 : BitVec 32 := 0#32
  let c1_i32 : BitVec 32 := 1#32
  let arg23 : BitVec 32 := Scf.iv c0_i32 c1_i32 k0_t1
  let v228 : Index := Scalar.indexCast arg23
  let c7 : Index := 7#32
  let c0_106 : Index := 0#32
  ![v228.toNat, 7, 0]
def k0_off11 (k0_t1 : Fin k0_t1_loop.trips) : Fin 3 → Nat :=
  let c0_i32 : BitVec 32 := 0#32
  let c1_i32 : BitVec 32 := 1#32
  let arg23 : BitVec 32 := Scf.iv c0_i32 c1_i32 k0_t1
  let v248 : Index := Scalar.indexCast arg23
  let c8 : Index := 8#32
  let c0_113 : Index := 0#32
  ![v248.toNat, 8, 0]
def k0_off12 (k0_t1 : Fin k0_t1_loop.trips) : Fin 3 → Nat :=
  let c0_i32 : BitVec 32 := 0#32
  let c1_i32 : BitVec 32 := 1#32
  let arg23 : BitVec 32 := Scf.iv c0_i32 c1_i32 k0_t1
  let v268 : Index := Scalar.indexCast arg23
  let c9 : Index := 9#32
  let c0_120 : Index := 0#32
  ![v268.toNat, 9, 0]
def k0_off13 (k0_t1 : Fin k0_t1_loop.trips) : Fin 3 → Nat :=
  let c0_i32 : BitVec 32 := 0#32
  let c1_i32 : BitVec 32 := 1#32
  let arg23 : BitVec 32 := Scf.iv c0_i32 c1_i32 k0_t1
  let v288 : Index := Scalar.indexCast arg23
  let c10 : Index := 10#32
  let c0_127 : Index := 0#32
  ![v288.toNat, 10, 0]
def k0_off14 (k0_t1 : Fin k0_t1_loop.trips) : Fin 3 → Nat :=
  let c0_i32 : BitVec 32 := 0#32
  let c1_i32 : BitVec 32 := 1#32
  let arg23 : BitVec 32 := Scf.iv c0_i32 c1_i32 k0_t1
  let v308 : Index := Scalar.indexCast arg23
  let c11 : Index := 11#32
  let c0_134 : Index := 0#32
  ![v308.toNat, 11, 0]
def k0_off15 (k0_t1 : Fin k0_t1_loop.trips) : Fin 3 → Nat :=
  let c0_i32 : BitVec 32 := 0#32
  let c1_i32 : BitVec 32 := 1#32
  let arg23 : BitVec 32 := Scf.iv c0_i32 c1_i32 k0_t1
  let v328 : Index := Scalar.indexCast arg23
  let c12 : Index := 12#32
  let c0_141 : Index := 0#32
  ![v328.toNat, 12, 0]
def k0_off16 (k0_t1 : Fin k0_t1_loop.trips) : Fin 3 → Nat :=
  let c0_i32 : BitVec 32 := 0#32
  let c1_i32 : BitVec 32 := 1#32
  let arg23 : BitVec 32 := Scf.iv c0_i32 c1_i32 k0_t1
  let v348 : Index := Scalar.indexCast arg23
  let c13 : Index := 13#32
  let c0_148 : Index := 0#32
  ![v348.toNat, 13, 0]
def k0_off17 (k0_t1 : Fin k0_t1_loop.trips) : Fin 3 → Nat :=
  let c0_i32 : BitVec 32 := 0#32
  let c1_i32 : BitVec 32 := 1#32
  let arg23 : BitVec 32 := Scf.iv c0_i32 c1_i32 k0_t1
  let v368 : Index := Scalar.indexCast arg23
  let c14 : Index := 14#32
  let c0_155 : Index := 0#32
  ![v368.toNat, 14, 0]
def k0_off18 (k0_t1 : Fin k0_t1_loop.trips) : Fin 3 → Nat :=
  let c0_i32 : BitVec 32 := 0#32
  let c1_i32 : BitVec 32 := 1#32
  let arg23 : BitVec 32 := Scf.iv c0_i32 c1_i32 k0_t1
  let v388 : Index := Scalar.indexCast arg23
  let c15 : Index := 15#32
  let c0_162 : Index := 0#32
  ![v388.toNat, 15, 0]
@[reducible] def k0_t2_loop : Scf.Loop 32 :=
  let c0_i32_38 : BitVec 32 := 0#32
  let c8_i32 : BitVec 32 := 8#32
  let v62 : BitVec 32 := Scalar.addi c0_i32_38 c8_i32
  let c1_i32_39 : BitVec 32 := 1#32
  ⟨c0_i32_38, v62, c1_i32_39⟩
def k0_off19 (k0_t2 : Fin k0_t2_loop.trips) : Fin 3 → Nat :=
  let c2_i32 : BitVec 32 := 2#32
  let c0_i32_38 : BitVec 32 := 0#32
  let c1_i32_39 : BitVec 32 := 1#32
  let arg23 : BitVec 32 := Scf.iv c0_i32_38 c1_i32_39 k0_t2
  let v70 : BitVec 32 := Scalar.muli c2_i32 arg23
  let v71 : Index := Scalar.indexCast v70
  let c0_49 : Index := 0#32
  let c0_50 : Index := 0#32
  ![v71.toNat, 0, 0]
def k0_off20 (k0_t2 : Fin k0_t2_loop.trips) : Fin 3 → Nat :=
  let c2_i32_51 : BitVec 32 := 2#32
  let c0_i32_38 : BitVec 32 := 0#32
  let c1_i32_39 : BitVec 32 := 1#32
  let arg23 : BitVec 32 := Scf.iv c0_i32_38 c1_i32_39 k0_t2
  let v74 : BitVec 32 := Scalar.muli c2_i32_51 arg23
  let c1_i32_52 : BitVec 32 := 1#32
  let v75 : BitVec 32 := Scalar.addi v74 c1_i32_52
  let v76 : Index := Scalar.indexCast v75
  let c0_53 : Index := 0#32
  let c0_54 : Index := 0#32
  ![v76.toNat, 0, 0]
def k0_mult2 (k0_t2 : Fin k0_t2_loop.trips) : BitVec 32 :=
  let c0_i32_38 : BitVec 32 := 0#32
  let c1_i32_39 : BitVec 32 := 1#32
  let arg23 : BitVec 32 := Scf.iv c0_i32_38 c1_i32_39 k0_t2
  let c16_i32_230 : BitVec 32 := 16#32
  let v576 : BitVec 32 := Scalar.muli arg23 c16_i32_230
  v576
def k0_off21 (k0_t2 : Fin k0_t2_loop.trips) : Fin 2 → Nat :=
  let c0_i32_38 : BitVec 32 := 0#32
  let c1_i32_39 : BitVec 32 := 1#32
  let arg23 : BitVec 32 := Scf.iv c0_i32_38 c1_i32_39 k0_t2
  let c16_i32_230 : BitVec 32 := 16#32
  let v576 : BitVec 32 := Scalar.muli arg23 c16_i32_230
  let v577 : BitVec 32 := v576
  let v582 : Index := Scalar.indexCast v577
  let c0_232 : Index := 0#32
  ![v582.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S4096x1024 : Shape := ⟨2, ![4096, 1024]⟩
abbrev S5x2x2048x1024 : Shape := ⟨4, ![5, 2, 2048, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S5x4096x1024 : Shape := ⟨3, ![5, 4096, 1024]⟩
abbrev S1x4096x1024 : Shape := ⟨3, ![1, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S5x2x2048x1024, .bf16⟩
  | .hbm, ⟨2, _⟩ => ⟨S4096x1024, .bf16⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S8x2x128x128, .f32⟩
  | .hbm, ⟨9, _⟩ => ⟨S5x2x2048x1024, .f32⟩
  | .hbm, ⟨10, _⟩ => ⟨S5x4096x1024, .f32⟩
  | .hbm, ⟨11, _⟩ => ⟨S1x4096x1024, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S1x4096x1024, .f32⟩
  | .hbm, ⟨18, _⟩ => ⟨S4096x1024, .f32⟩
  | .hbm, ⟨19, _⟩ => ⟨S1x4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== FinalNorm.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.KernelIdealPart25.lean ====
/- `k0_part25` of `KernelIdeal`'s body run by itself, from any contents of the buffers that it touches. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers that `k0_part25` touches, at the contents `f…`. -/
abbrev held25 (c : Dev nD) (arg1 : Memref sig .tc .vmem S1x1x2048x1024 .bf16) (arg3 : Memref sig .tc .vmem S5x1024 .f32) (arg4 : Memref sig .tc .vmem S1x1024 .f32) (arg8 : Memref sig .tc .vmem S1024x16 .bf16) (arg9 : Memref sig .tc .vmem S16x1024 .bf16) (arg10 : Memref sig .tc .vmem S1x16 .f32) (arg11 : Memref sig .tc .vmem S16x1 .f32) (arg15 : Memref sig .tc .vmem S2064x1024 .f32) (arg16 : Memref sig .tc .vmem S2048x1024 .bf16) (arg17 : Memref sig .tc .vmem S2048x16 .f32) (arg18 : Memref sig .tc .vmem S16x2048 .f32) (arg21 : Memref sig .tc .vmem S2048x384 .bf16) (f1 : BufTy.Contents (Elt F) arg1.view.ty) (f3 : BufTy.Contents (Elt F) arg3.view.ty) (f4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) (f15 : BufTy.Contents (Elt F) arg15.view.ty) (f16 : BufTy.Contents (Elt F) arg16.view.ty) (f17 : BufTy.Contents (Elt F) arg17.view.ty) (f18 : BufTy.Contents (Elt F) arg18.view.ty) (f21 : BufTy.Contents (Elt F) arg21.view.ty) : sProp 𝕄 :=
  iprop((arg1.view.loc (c : Thread nD τ) ↦[arg1.view.set]{fullShare} f1) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg21.view.loc (c : Thread nD τ) ↦[arg21.view.set]{fullShare} f21))

set_option maxHeartbeats 8000000 in
/-- What `k0_part25` leaves in each buffer that it writes, as functions of the contents that it finds, with its triple. -/
noncomputable def part25Run (c : Dev nD) (i : grid0.Coords) (arg1 : Memref sig .tc .vmem S1x1x2048x1024 .bf16) (harg1 : arg1.IsWhole) (arg2 : Memref sig .tc .vmem S1x1x2048x1024 .bf16) (harg2 : arg2.IsWhole) (arg3 : Memref sig .tc .vmem S5x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S1024x16 .bf16) (harg8 : arg8.IsWhole) (arg9 : Memref sig .tc .vmem S16x1024 .bf16) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048x1024 .bf16) (harg14 : arg14.IsWhole) (arg15 : Memref sig .tc .vmem S2064x1024 .f32) (harg15 : arg15.IsWhole) (arg16 : Memref sig .tc .vmem S2048x1024 .bf16) (harg16 : arg16.IsWhole) (arg17 : Memref sig .tc .vmem S2048x16 .f32) (harg17 : arg17.IsWhole) (arg18 : Memref sig .tc .vmem S16x2048 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x384 .bf16) (harg21 : arg21.IsWhole) (arg22 : Memref sig .tc .vmem S2048x256 .f32) (harg22 : arg22.IsWhole) (arg23 : Memref sig .tc .vmem S256x384 .f32) (harg23 : arg23.IsWhole) (f1 : BufTy.Contents (Elt F) arg1.view.ty) (f3 : BufTy.Contents (Elt F) arg3.view.ty) (f4 : BufTy.Contents (Elt F) arg4.view.ty) (f8 : BufTy.Contents (Elt F) arg8.view.ty) (f9 : BufTy.Contents (Elt F) arg9.view.ty) (f10 : BufTy.Contents (Elt F) arg10.view.ty) (f11 : BufTy.Contents (Elt F) arg11.view.ty) (f15 : BufTy.Contents (Elt F) arg15.view.ty) (f16 : BufTy.Contents (Elt F) arg16.view.ty) (f17 : BufTy.Contents (Elt F) arg17.view.ty) (f18 : BufTy.Contents (Elt F) arg18.view.ty) (f21 : BufTy.Contents (Elt F) arg21.view.ty) :
    Σ' (C15 : BufTy.Contents (Elt F) arg15.view.ty) (C16 : BufTy.Contents (Elt F) arg16.view.ty) (C17 : BufTy.Contents (Elt F) arg17.view.ty) (C18 : BufTy.Contents (Elt F) arg18.view.ty), { C21 : BufTy.Contents (Elt F) arg21.view.ty // ∀ E : Set ℕ,
      held25 (F := F) c arg1 arg3 arg4 arg8 arg9 arg10 arg11 arg15 arg16 arg17 arg18 arg21 f1 f3 f4 f8 f9 f10 f11 f15 f16 f17 f18 f21
      ⊢ wp frame (wpE (defs₀ (F := F)) Variants.none (c : Thread nD τ) none) E (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 )
          (fun r => iprop(⌜r = ⟨k0_pay136, k0_pay137⟩⌝ ∗ held25 (F := F) c arg1 arg3 arg4 arg8 arg9 arg10 arg11 arg15 arg16 arg17 arg18 arg21 f1 f3 f4 f8 f9 f10 f11 C15 C16 C17 C18 C21)) } := by
  refine ⟨?_, ?_, ?_, ?_, ?_, fun E => ?run⟩
  case run =>
    rw [k0_part25_eq_skeleton]; unfold k0_part25_skel
    iintro ⟨H1, H3, H4, H8, H9, H10, H11, H15, H16, H17, H18, H21⟩
    sl_exec
    sl_step
    sl_close

end Cert.KernelIdeal.Gen

end
-- ==== Proof.KernelIdealPart26.lean ====
/- `k0_part26` of `KernelIdeal`'s body run by itself, from any contents of the buffers that it touches. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers that `k0_part26` touches, at the contents `f…`. -/
abbrev held26 (c : Dev nD) (arg1 : Memref sig .tc .vmem S1x1x2048x1024 .bf16) (arg2 : Memref sig .tc .vmem S1x1x2048x1024 .bf16) (arg5 : Memref sig .tc .vmem S4x256x256 .bf16) (arg6 : Memref sig .tc .vmem S4x256x256 .bf16) (arg7 : Memref sig .tc .vmem S4x256x256 .bf16) (arg12 : Memref sig .tc .vmem S1x1024 .f32) (arg13 : Memref sig .tc .vmem S1x1024 .f32) (arg14 : Memref sig .tc .vmem S1x2048x1024 .bf16) (arg16 : Memref sig .tc .vmem S2048x1024 .bf16) (arg17 : Memref sig .tc .vmem S2048x16 .f32) (arg18 : Memref sig .tc .vmem S16x2048 .f32) (arg19 : Memref sig .tc .vmem S2048x256 .bf16) (arg20 : Memref sig .tc .vmem S2048x256 .bf16) (arg21 : Memref sig .tc .vmem S2048x384 .bf16) (arg22 : Memref sig .tc .vmem S2048x256 .f32) (arg23 : Memref sig .tc .vmem S256x384 .f32) (f1 : BufTy.Contents (Elt F) arg1.view.ty) (f2 : BufTy.Contents (Elt F) arg2.view.ty) (f5 : BufTy.Contents (Elt F) arg5.view.ty) (f6 : BufTy.Contents (Elt F) arg6.view.ty) (f7 : BufTy.Contents (Elt F) arg7.view.ty) (f12 : BufTy.Contents (Elt F) arg12.view.ty) (f13 : BufTy.Contents (Elt F) arg13.view.ty) (f14 : BufTy.Contents (Elt F) arg14.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) : sProp 𝕄 :=
  iprop((arg1.view.loc (c : Thread nD τ) ↦[arg1.view.set]{fullShare} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23))

set_option maxHeartbeats 8000000 in
/-- What `k0_part26` leaves in each buffer that it writes, as functions of the contents that it finds, with its triple. -/
noncomputable def part26Run (c : Dev nD) (i : grid0.Coords) (arg1 : Memref sig .tc .vmem S1x1x2048x1024 .bf16) (harg1 : arg1.IsWhole) (arg2 : Memref sig .tc .vmem S1x1x2048x1024 .bf16) (harg2 : arg2.IsWhole) (arg3 : Memref sig .tc .vmem S5x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S1024x16 .bf16) (harg8 : arg8.IsWhole) (arg9 : Memref sig .tc .vmem S16x1024 .bf16) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048x1024 .bf16) (harg14 : arg14.IsWhole) (arg15 : Memref sig .tc .vmem S2064x1024 .f32) (harg15 : arg15.IsWhole) (arg16 : Memref sig .tc .vmem S2048x1024 .bf16) (harg16 : arg16.IsWhole) (arg17 : Memref sig .tc .vmem S2048x16 .f32) (harg17 : arg17.IsWhole) (arg18 : Memref sig .tc .vmem S16x2048 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x384 .bf16) (harg21 : arg21.IsWhole) (arg22 : Memref sig .tc .vmem S2048x256 .f32) (harg22 : arg22.IsWhole) (arg23 : Memref sig .tc .vmem S256x384 .f32) (harg23 : arg23.IsWhole) (v2 v3 : IVec S128x128 1) (f1 : BufTy.Contents (Elt F) arg1.view.ty) (f2 : BufTy.Contents (Elt F) arg2.view.ty) (f5 : BufTy.Contents (Elt F) arg5.view.ty) (f6 : BufTy.Contents (Elt F) arg6.view.ty) (f7 : BufTy.Contents (Elt F) arg7.view.ty) (f12 : BufTy.Contents (Elt F) arg12.view.ty) (f13 : BufTy.Contents (Elt F) arg13.view.ty) (f14 : BufTy.Contents (Elt F) arg14.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) :
    Σ' (L14 : List (View.Piece (Elt F) S1x2048x1024 .bf16)) (C19 : BufTy.Contents (Elt F) arg19.view.ty) (C20 : BufTy.Contents (Elt F) arg20.view.ty) (C21 : BufTy.Contents (Elt F) arg21.view.ty) (C22 : BufTy.Contents (Elt F) arg22.view.ty), { C23 : BufTy.Contents (Elt F) arg23.view.ty // ∀ E : Set ℕ,
      held26 (F := F) c arg1 arg2 arg5 arg6 arg7 arg12 arg13 arg14 arg16 arg17 arg18 arg19 arg20 arg21 arg22 arg23 f1 f2 f5 f6 f7 f12 f13 f14 f16 f17 f18 f19 f20 f21 f22 f23
      ⊢ wp frame (wpE (defs₀ (F := F)) Variants.none (c : Thread nD τ) none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2 v3)
          (fun r => iprop(held26 (F := F) c arg1 arg2 arg5 arg6 arg7 arg12 arg13 arg14 arg16 arg17 arg18 arg19 arg20 arg21 arg22 arg23 f1 f2 f5 f6 f7 f12 f13 (arg14.view.writes (Elt F) f14 L14) f16 f17 f18 C19 C20 C21 C22 C23)) } := by
  refine ⟨?_, ?_, ?_, ?_, ?_, ?_, fun E => ?run⟩
  case run =>
    rw [k0_part26_eq_skeleton]; unfold k0_part26_skel
    iintro ⟨H1, H2, H5, H6, H7, H12, H13, H14, H16, H17, H18, H19, H20, H21, H22, H23⟩
    sl_exec
    sl_step
    sl_close

end Cert.KernelIdeal.Gen

end
-- ==== Proof.KernelIdealPart27.lean ====
/- `k0_part27` of `KernelIdeal`'s body run by itself, from any contents of the buffers that it touches. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers that `k0_part27` touches, at the contents `f…`. -/
abbrev held27 (c : Dev nD) (arg1 : Memref sig .tc .vmem S1x1x2048x1024 .bf16) (arg2 : Memref sig .tc .vmem S1x1x2048x1024 .bf16) (arg5 : Memref sig .tc .vmem S4x256x256 .bf16) (arg6 : Memref sig .tc .vmem S4x256x256 .bf16) (arg7 : Memref sig .tc .vmem S4x256x256 .bf16) (arg12 : Memref sig .tc .vmem S1x1024 .f32) (arg13 : Memref sig .tc .vmem S1x1024 .f32) (arg14 : Memref sig .tc .vmem S1x2048x1024 .bf16) (arg16 : Memref sig .tc .vmem S2048x1024 .bf16) (arg17 : Memref sig .tc .vmem S2048x16 .f32) (arg18 : Memref sig .tc .vmem S16x2048 .f32) (arg19 : Memref sig .tc .vmem S2048x256 .bf16) (arg20 : Memref sig .tc .vmem S2048x256 .bf16) (arg21 : Memref sig .tc .vmem S2048x384 .bf16) (arg22 : Memref sig .tc .vmem S2048x256 .f32) (arg23 : Memref sig .tc .vmem S256x384 .f32) (f1 : BufTy.Contents (Elt F) arg1.view.ty) (f2 : BufTy.Contents (Elt F) arg2.view.ty) (f5 : BufTy.Contents (Elt F) arg5.view.ty) (f6 : BufTy.Contents (Elt F) arg6.view.ty) (f7 : BufTy.Contents (Elt F) arg7.view.ty) (f12 : BufTy.Contents (Elt F) arg12.view.ty) (f13 : BufTy.Contents (Elt F) arg13.view.ty) (f14 : BufTy.Contents (Elt F) arg14.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) : sProp 𝕄 :=
  iprop((arg1.view.loc (c : Thread nD τ) ↦[arg1.view.set]{fullShare} f1) ∗ (arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23))

set_option maxHeartbeats 8000000 in
/-- What `k0_part27` leaves in each buffer that it writes, as functions of the contents that it finds, with its triple. -/
noncomputable def part27Run (c : Dev nD) (i : grid0.Coords) (arg1 : Memref sig .tc .vmem S1x1x2048x1024 .bf16) (harg1 : arg1.IsWhole) (arg2 : Memref sig .tc .vmem S1x1x2048x1024 .bf16) (harg2 : arg2.IsWhole) (arg3 : Memref sig .tc .vmem S5x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S1024x16 .bf16) (harg8 : arg8.IsWhole) (arg9 : Memref sig .tc .vmem S16x1024 .bf16) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048x1024 .bf16) (harg14 : arg14.IsWhole) (arg15 : Memref sig .tc .vmem S2064x1024 .f32) (harg15 : arg15.IsWhole) (arg16 : Memref sig .tc .vmem S2048x1024 .bf16) (harg16 : arg16.IsWhole) (arg17 : Memref sig .tc .vmem S2048x16 .f32) (harg17 : arg17.IsWhole) (arg18 : Memref sig .tc .vmem S16x2048 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x384 .bf16) (harg21 : arg21.IsWhole) (arg22 : Memref sig .tc .vmem S2048x256 .f32) (harg22 : arg22.IsWhole) (arg23 : Memref sig .tc .vmem S256x384 .f32) (harg23 : arg23.IsWhole) (v2 v3 : IVec S128x128 1) (f1 : BufTy.Contents (Elt F) arg1.view.ty) (f2 : BufTy.Contents (Elt F) arg2.view.ty) (f5 : BufTy.Contents (Elt F) arg5.view.ty) (f6 : BufTy.Contents (Elt F) arg6.view.ty) (f7 : BufTy.Contents (Elt F) arg7.view.ty) (f12 : BufTy.Contents (Elt F) arg12.view.ty) (f13 : BufTy.Contents (Elt F) arg13.view.ty) (f14 : BufTy.Contents (Elt F) arg14.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) :
    Σ' (L14 : List (View.Piece (Elt F) S1x2048x1024 .bf16)) (C19 : BufTy.Contents (Elt F) arg19.view.ty) (C20 : BufTy.Contents (Elt F) arg20.view.ty) (C21 : BufTy.Contents (Elt F) arg21.view.ty) (C22 : BufTy.Contents (Elt F) arg22.view.ty), { C23 : BufTy.Contents (Elt F) arg23.view.ty // ∀ E : Set ℕ,
      held27 (F := F) c arg1 arg2 arg5 arg6 arg7 arg12 arg13 arg14 arg16 arg17 arg18 arg19 arg20 arg21 arg22 arg23 f1 f2 f5 f6 f7 f12 f13 f14 f16 f17 f18 f19 f20 f21 f22 f23
      ⊢ wp frame (wpE (defs₀ (F := F)) Variants.none (c : Thread nD τ) none) E (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2 v3)
          (fun r => iprop(held27 (F := F) c arg1 arg2 arg5 arg6 arg7 arg12 arg13 arg14 arg16 arg17 arg18 arg19 arg20 arg21 arg22 arg23 f1 f2 f5 f6 f7 f12 f13 (arg14.view.writes (Elt F) f14 L14) f16 f17 f18 C19 C20 C21 C22 C23)) } := by
  refine ⟨?_, ?_, ?_, ?_, ?_, ?_, fun E => ?run⟩
  case run =>
    rw [k0_part27_eq_skeleton]; unfold k0_part27_skel
    iintro ⟨H1, H2, H5, H6, H7, H12, H13, H14, H16, H17, H18, H19, H20, H21, H22, H23⟩
    sl_exec
    sl_step
    sl_close

end Cert.KernelIdeal.Gen

end
-- ==== Proof.KernelIdealBody.lean ====
/- `KernelIdeal`'s body, run from any contents of its buffers: the inputs stay as they are. -/
module

public import proofs.«01_k».proof.Proof.KernelIdealPart25
public import proofs.«01_k».proof.Proof.KernelIdealPart26
public import proofs.«01_k».proof.Proof.KernelIdealPart27

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] k0_part25 k0_part26 k0_part27

/-- The body's buffers, at the contents `f…`. -/
abbrev heldAll (c : Dev nD) (arg1 : Memref sig .tc .vmem S1x1x2048x1024 .bf16) (arg2 : Memref sig .tc .vmem S1x1x2048x1024 .bf16) (arg3 : Memref sig .tc .vmem S5x1024 .f32) (arg4 : Memref sig .tc .vmem S1x1024 .f32) (arg5 : Memref sig .tc .vmem S4x256x256 .bf16) (arg6 : Memref sig .tc .vmem S4x256x256 .bf16) (arg7 : Memref sig .tc .vmem S4x256x256 .bf16) (arg8 : Memref sig .tc .vmem S1024x16 .bf16) (arg9 : Memref sig .tc .vmem S16x1024 .bf16) (arg10 : Memref sig .tc .vmem S1x16 .f32) (arg11 : Memref sig .tc .vmem S16x1 .f32) (arg12 : Memref sig .tc .vmem S1x1024 .f32) (arg13 : Memref sig .tc .vmem S1x1024 .f32) (arg14 : Memref sig .tc .vmem S1x2048x1024 .bf16) (arg15 : Memref sig .tc .vmem S2064x1024 .f32) (arg16 : Memref sig .tc .vmem S2048x1024 .bf16) (arg17 : Memref sig .tc .vmem S2048x16 .f32) (arg18 : Memref sig .tc .vmem S16x2048 .f32) (arg19 : Memref sig .tc .vmem S2048x256 .bf16) (arg20 : Memref sig .tc .vmem S2048x256 .bf16) (arg21 : Memref sig .tc .vmem S2048x384 .bf16) (arg22 : Memref sig .tc .vmem S2048x256 .f32) (arg23 : Memref sig .tc .vmem S256x384 .f32) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23))

set_option maxHeartbeats 8000000 in
/-- The body's triple: from any contents, with the inputs kept. -/
theorem body (c : Dev nD) (i : grid0.Coords) (arg1 : Memref sig .tc .vmem S1x1x2048x1024 .bf16) (harg1 : arg1.IsWhole) (arg2 : Memref sig .tc .vmem S1x1x2048x1024 .bf16) (harg2 : arg2.IsWhole) (arg3 : Memref sig .tc .vmem S5x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S1024x16 .bf16) (harg8 : arg8.IsWhole) (arg9 : Memref sig .tc .vmem S16x1024 .bf16) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048x1024 .bf16) (harg14 : arg14.IsWhole) (arg15 : Memref sig .tc .vmem S2064x1024 .f32) (harg15 : arg15.IsWhole) (arg16 : Memref sig .tc .vmem S2048x1024 .bf16) (harg16 : arg16.IsWhole) (arg17 : Memref sig .tc .vmem S2048x16 .f32) (harg17 : arg17.IsWhole) (arg18 : Memref sig .tc .vmem S16x2048 .f32) (harg18 : arg18.IsWhole) (arg19 : Memref sig .tc .vmem S2048x256 .bf16) (harg19 : arg19.IsWhole) (arg20 : Memref sig .tc .vmem S2048x256 .bf16) (harg20 : arg20.IsWhole) (arg21 : Memref sig .tc .vmem S2048x384 .bf16) (harg21 : arg21.IsWhole) (arg22 : Memref sig .tc .vmem S2048x256 .f32) (harg22 : arg22.IsWhole) (arg23 : Memref sig .tc .vmem S256x384 .f32) (harg23 : arg23.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) :
    ∃ (C14 : BufTy.Contents (Elt F) arg14.view.ty) (C15 : BufTy.Contents (Elt F) arg15.view.ty) (C16 : BufTy.Contents (Elt F) arg16.view.ty) (C17 : BufTy.Contents (Elt F) arg17.view.ty) (C18 : BufTy.Contents (Elt F) arg18.view.ty) (C19 : BufTy.Contents (Elt F) arg19.view.ty) (C20 : BufTy.Contents (Elt F) arg20.view.ty) (C21 : BufTy.Contents (Elt F) arg21.view.ty) (C22 : BufTy.Contents (Elt F) arg22.view.ty) (C23 : BufTy.Contents (Elt F) arg23.view.ty), ∀ E : Set ℕ,
      heldAll (F := F) c arg1 arg2 arg3 arg4 arg5 arg6 arg7 arg8 arg9 arg10 arg11 arg12 arg13 arg14 arg15 arg16 arg17 arg18 arg19 arg20 arg21 arg22 arg23 f1 f2 f3 f4 f5 f6 f7 f8 f9 f10 f11 f12 f13 f14 f15 f16 f17 f18 f19 f20 f21 f22 f23
      ⊢ wp frame (wpE (defs₀ (F := F)) Variants.none (c : Thread nD τ) none) E (cc0_mlstm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => heldAll (F := F) c arg1 arg2 arg3 arg4 arg5 arg6 arg7 arg8 arg9 arg10 arg11 arg12 arg13 arg14 arg15 arg16 arg17 arg18 arg19 arg20 arg21 arg22 arg23 f1 f2 f3 f4 f5 f6 f7 f8 f9 f10 f11 f12 f13 C14 C15 C16 C17 C18 C19 C20 C21 C22 C23) := by
  obtain ⟨C15_25, C16_25, C17_25, C18_25, C21_25, h25⟩ := part25Run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 f1 f3 f4 f8 f9 f10 f11 f15 f16 f17 f18 f21
  obtain ⟨C14_26, C19_26, C20_26, C21_26, C22_26, C23_26, h26⟩ := part26Run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay136 k0_pay137 f1 f2 f5 f6 f7 f12 f13 f14 C16_25 C17_25 C18_25 f19 f20 C21_25 f22 f23
  obtain ⟨C14_27, C19_27, C20_27, C21_27, C22_27, C23_27, h27⟩ := part27Run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_pay136 k0_pay137 f1 f2 f5 f6 f7 f12 f13 (arg14.view.writes (Elt F) f14 C14_26) C16_25 C17_25 C18_25 C19_26 C20_26 C21_26 C22_26 C23_26
  refine ⟨?_, ?_, ?_, ?_, ?_, ?_, ?_, ?_, ?_, ?_, fun E => ?run⟩
  case run =>
    simp only [cc0_mlstm_eq_skeleton]; unfold cc0_mlstm_skel
    iintro ⟨H1, H2, H3, H4, H5, H6, H7, H8, H9, H10, H11, H12, H13, H14, H15, H16, H17, H18, H19, H20, H21, H22, H23⟩
    rw [wp_bind]
    iapply wp_wand_r
    isplitl [H1 H3 H4 H8 H9 H10 H11 H15 H16 H17 H18 H21]
    · iapply (h25 E)
      sl_close
    iintro %r ⟨%hr, H1, H3, H4, H8, H9, H10, H11, H15, H16, H17, H18, H21⟩
    obtain rfl := hr
    dsimp only
    sl_exec
    sl_step
    sl_close

end Cert.KernelIdeal.Gen

end
-- ==== Proof.KernelIdealLaunch.lean ====
/- The launch of `KernelIdeal`'s one region, with what the body leaves in the output's buffer held to a predicate
   (relational proof data): the body reads its scratch buffers only where it has written them, but finds them at any contents,
   so that the output is held to what a predicate says of it. -/
module

public import proofs.«01_k».proof.Proof.KernelIdealBody
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.KernelIdeal.Launch

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data on core `c`: the arrays as the region finds them; each input's buffer at its block after the body; the output's
    unnamed; the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => Pipeline.Dat.unnamed (cfg := cfg0) 13 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- The output window is the one whose contents are held to a predicate. -/
def fgt0 : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true

/-- The predicate on the output's block at each point, as a predicate on every window's. -/
def rel (good : Fin cfg0.N → Vec F S1x2048x1024 .bf16 → Prop) :
    (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun _ _ => True
  | ⟨7, _⟩ => fun _ _ => True
  | ⟨8, _⟩ => fun _ _ => True
  | ⟨9, _⟩ => fun _ _ => True
  | ⟨10, _⟩ => fun _ _ => True
  | ⟨11, _⟩ => fun _ _ => True
  | ⟨12, _⟩ => fun _ _ => True
  | ⟨13, _⟩ => fun t X => good t X

/-- The body, from the inputs' blocks and anything in the other buffers, leaves in the output's buffer something that meets `good`. -/
def BodyLeaves (good : Dev nD → Fin cfg0.N → Vec F S1x2048x1024 .bf16 → Prop) : Prop :=
  ∀ (c : Dev nD) (t : Fin cfg0.N) (f14 : BufTy.Contents (Elt F) (ms0_13 t).view.ty) (f15 : BufTy.Contents (Elt F) scM0_0.view.ty) (f16 : BufTy.Contents (Elt F) scM0_1.view.ty) (f17 : BufTy.Contents (Elt F) scM0_2.view.ty) (f18 : BufTy.Contents (Elt F) scM0_3.view.ty) (f19 : BufTy.Contents (Elt F) scM0_4.view.ty) (f20 : BufTy.Contents (Elt F) scM0_5.view.ty) (f21 : BufTy.Contents (Elt F) scM0_6.view.ty) (f22 : BufTy.Contents (Elt F) scM0_7.view.ty) (f23 : BufTy.Contents (Elt F) scM0_8.view.ty),
    ∃ (C14 : BufTy.Contents (Elt F) (ms0_13 t).view.ty) (C15 : BufTy.Contents (Elt F) scM0_0.view.ty) (C16 : BufTy.Contents (Elt F) scM0_1.view.ty) (C17 : BufTy.Contents (Elt F) scM0_2.view.ty) (C18 : BufTy.Contents (Elt F) scM0_3.view.ty) (C19 : BufTy.Contents (Elt F) scM0_4.view.ty) (C20 : BufTy.Contents (Elt F) scM0_5.view.ty) (C21 : BufTy.Contents (Elt F) scM0_6.view.ty) (C22 : BufTy.Contents (Elt F) scM0_7.view.ty) (C23 : BufTy.Contents (Elt F) scM0_8.view.ty), good c t ((ms0_13 t).view.read (Elt F) C14) ∧ ∀ E : Set ℕ,
      heldAll (F := F) c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 scM0_5 scM0_6 scM0_7 scM0_8 ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_8 t).unread (iblk m c 8 t)) ((hs0_9 t).unread (iblk m c 9 t)) ((hs0_10 t).unread (iblk m c 10 t)) ((hs0_11 t).unread (iblk m c 11 t)) ((hs0_12 t).unread (iblk m c 12 t)) f14 f15 f16 f17 f18 f19 f20 f21 f22 f23
      ⊢ wp frame (wpE (defs₀ (F := F)) Variants.none (c : Thread nD τ) none) E (cc0_mlstm (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _))
          (fun _ => heldAll (F := F) c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 scM0_5 scM0_6 scM0_7 scM0_8 ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_8 t).unread (iblk m c 8 t)) ((hs0_9 t).unread (iblk m c 9 t)) ((hs0_10 t).unread (iblk m c 10 t)) ((hs0_11 t).unread (iblk m c 11 t)) ((hs0_12 t).unread (iblk m c 12 t)) C14 C15 C16 C17 C18 C19 C20 C21 C22 C23)

/-- The body leaves something, of which nothing is said. -/
theorem bodyLeaves_true : BodyLeaves m (fun _ _ _ => True) := by
  intro c t f14 f15 f16 f17 f18 f19 f20 f21 f22 f23
  obtain ⟨C14, C15, C16, C17, C18, C19, C20, C21, C22, C23, h⟩ := body (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) ((hs0_8 t).unread (iblk m c 8 t)) ((hs0_9 t).unread (iblk m c 9 t)) ((hs0_10 t).unread (iblk m c 10 t)) ((hs0_11 t).unread (iblk m c 11 t)) ((hs0_12 t).unread (iblk m c 12 t)) f14 f15 f16 f17 f18 f19 f20 f21 f22 f23
  exact ⟨C14, C15, C16, C17, C18, C19, C20, C21, C22, C23, trivial, h⟩

variable {m} {good : Dev nD → Fin cfg0.N → Vec F S1x2048x1024 .bf16 → Prop}

/-! ## The body obligation -/

/-- What the body is called with at point `t`, the windows one by one, -/
def bodyPre (m : (ℓ : Loc nD τ sig) → Buf (Elt F) ℓ) (good : Dev nD → Fin cfg0.N → Vec F S1x2048x1024 .bf16 → Prop) (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ Y, ⌜((dats m 0 c).toRRel fgt0 (rel (good c))).Finds 13 t Y⌝ ∗ owns (c : Thread nD τ) (ms0_13 t) fullShare Y))

/-- and what it returns. -/
def bodyPost (m : (ℓ : Loc nD τ sig) → Buf (Elt F) ℓ) (good : Dev nD → Fin cfg0.N → Vec F S1x2048x1024 .bf16 → Prop) (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, ⌜good c t X⌝ ∗ owns (c : Thread nD τ) (ms0_13 t) fullShare X))

set_option maxHeartbeats 4000000 in
/-- The body at any point: the inputs' buffers hold their blocks, the scratch buffers come out of the invariant at some contents and
    return to it at some contents. -/
theorem sound_body (hb : BodyLeaves m good) (c : Dev nD) (t : Fin cfg0.N) :
    bodyPre m good c t ⊢ wp frame (wpE (defs₀ (F := F)) Variants.none c none) Set.univ (bodyAt0 t) (fun _ => bodyPost m good c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  unfold owns
  iintro ⟨⟨⟨⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩, Hg⟩, Ho, ⟨%e1, %f1, %hf1, H1⟩, ⟨%e2, %f2, %hf2, H2⟩, ⟨%e3, %f3, %hf3, H3⟩, ⟨%e4, %f4, %hf4, H4⟩, ⟨%e5, %f5, %hf5, H5⟩, ⟨%e6, %f6, %hf6, H6⟩, ⟨%e7, %f7, %hf7, H7⟩, ⟨%e8, %f8, %hf8, H8⟩, ⟨%e9, %f9, %hf9, H9⟩, ⟨%e10, %f10, %hf10, H10⟩, ⟨%e11, %f11, %hf11, H11⟩, ⟨%e12, %f12, %hf12, H12⟩, ⟨%e13, %f13, %hf13, H13⟩, ⟨%Y, -, %f14, -, H14⟩⟩
  obtain rfl := (hs0_0 t).eq_unread hf1; obtain rfl := (hs0_1 t).eq_unread hf2; obtain rfl := (hs0_2 t).eq_unread hf3; obtain rfl := (hs0_3 t).eq_unread hf4; obtain rfl := (hs0_4 t).eq_unread hf5; obtain rfl := (hs0_5 t).eq_unread hf6; obtain rfl := (hs0_6 t).eq_unread hf7; obtain rfl := (hs0_7 t).eq_unread hf8; obtain rfl := (hs0_8 t).eq_unread hf9; obtain rfl := (hs0_9 t).eq_unread hf10; obtain rfl := (hs0_10 t).eq_unread hf11; obtain rfl := (hs0_11 t).eq_unread hf12; obtain rfl := (hs0_12 t).eq_unread hf13
  obtain ⟨C14, C15, C16, C17, C18, C19, C20, C21, C22, C23, hgood, h⟩ := hb c t f14 f15 f16 f17 f18 f19 f20 f21 f22 f23
  iapply wp_wand_r
  isplitl [H1 H2 H3 H4 H5 H6 H7 H8 H9 H10 H11 H12 H13 H14 H15 H16 H17 H18 H19 H20 H21 H22 H23]
  · iapply (h Set.univ)
    sl_close
  iintro %r ⟨H1, H2, H3, H4, H5, H6, H7, H8, H9, H10, H11, H12, H13, H14, H15, H16, H17, H18, H19, H20, H21, H22, H23⟩
  isplitl [H15 H16 H17 H18 H19 H20 H21 H22 H23 Hg]
  · isplitl [H15 H16 H17 H18 H19 H20 H21 H22 H23]
    · isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      iexists _, _; isplitr; swap; · iexact H23
      ipureintro; rfl
    iexact Hg
  isplitl [Ho]; · iexact Ho
  isplitl [H1]
  · iexists _; isplitr; · ipureintro; exact (hs0_0 t).read_unread _
    iexact H1
  isplitl [H2]
  · iexists _; isplitr; · ipureintro; exact (hs0_1 t).read_unread _
    iexact H2
  isplitl [H3]
  · iexists _; isplitr; · ipureintro; exact (hs0_2 t).read_unread _
    iexact H3
  isplitl [H4]
  · iexists _; isplitr; · ipureintro; exact (hs0_3 t).read_unread _
    iexact H4
  isplitl [H5]
  · iexists _; isplitr; · ipureintro; exact (hs0_4 t).read_unread _
    iexact H5
  isplitl [H6]
  · iexists _; isplitr; · ipureintro; exact (hs0_5 t).read_unread _
    iexact H6
  isplitl [H7]
  · iexists _; isplitr; · ipureintro; exact (hs0_6 t).read_unread _
    iexact H7
  isplitl [H8]
  · iexists _; isplitr; · ipureintro; exact (hs0_7 t).read_unread _
    iexact H8
  isplitl [H9]
  · iexists _; isplitr; · ipureintro; exact (hs0_8 t).read_unread _
    iexact H9
  isplitl [H10]
  · iexists _; isplitr; · ipureintro; exact (hs0_9 t).read_unread _
    iexact H10
  isplitl [H11]
  · iexists _; isplitr; · ipureintro; exact (hs0_10 t).read_unread _
    iexact H11
  isplitl [H12]
  · iexists _; isplitr; · ipureintro; exact (hs0_11 t).read_unread _
    iexact H12
  isplitl [H13]
  · iexists _; isplitr; · ipureintro; exact (hs0_12 t).read_unread _
    iexact H13
  iexists _; isplitr; · ipureintro; exact hgood
  iexists _; isplitr; · ipureintro; rfl
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hb : BodyLeaves m good) (c : Dev nD) :
    BodyObligationRel (dats (F := F) m 0 c) (defs₀ (F := F)) Variants.none () Set.univ fgt0 (rel (good c)) := fun t => by
  rw [bigSep_W0, bigSep_W0, defs₀_row]
  exact triple_restated (sound_body hb c t) rfl .rfl fun _ => .rfl

/-! ## The run and the frame -/

set_option backward.isDefEq.respectTransparency.types false in
/-- Every execution from zero counters ends, with the arrays at what the relational proof data allow and every counter at zero. -/
theorem run_main (hb : BodyLeaves m good) : θ_run defs (onTc (τ := τ) (main (F := F))) (s₀ m ρ)
    (fun r => Pipeline.RDat.FramePost (cfgs 0) (fun c => (dats m 0 c).toRRel fgt0 (rel (good c))) (V m) r ∧ r.2.sem = fun _ => 0) :=
  Pipeline.RDat.θ_run_frame_track_shared (Q' := _) cfgs (0 : Fin 1) launch₀0 defs₀ Variants.none
    (fun c => (dats m 0 c).toRRel fgt0 (rel (good c))) m ρ main
    (hbody := fun c => (body_obligation hb c).toRRel) (hq := fun _ _ _ => rfl)
    (howed := fun _ _ => rfl) (V := V m) (hmain := hmain m Variants.none) (hA := A_eq m) (hin := fun _ => .rfl) (hout := fun _ => .rfl)

/-- The arguments end as they were launched. -/
theorem kept {r : PUnit × MemSt nD τ sig (Elt F)}
    (h : Pipeline.RDat.FramePost (cfgs 0) (fun c => (dats (F := F) m 0 c).toRRel fgt0 (rel (good c))) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨
    (h.arr_in c 1 rfl).trans (V_main_arg0 m c),
    (h.arr_in c 2 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

variable (m)

/-- The frame: the arguments end as they were launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => kept h.1 c, h.2⟩) (run_main ρ (bodyLeaves_true m))

end Cert.KernelIdeal.Launch

end
-- ==== Proof.InProjIdealTiles.lean ====
/- What the five counted loops of `cc0_in_proj` leave in the buffers that they fill, in 128-row tiles:
   each loop writes one tile per trip, so that after its sixteen trips the buffer reads as one named
   function of what the loop read. Nothing here depends on the float values. -/
module

public import proofs.«01_k».proof.Proof.Gen.InProjIdeal.Frame.Runs
public import Idealize.ShloMosaic.Lib.VecWindow
public import Idealize.ShloMosaic.Lib.Writes
public import Idealize.ShloMosaic.Lib.ValueIdxCore

@[expose] public section

set_option maxRecDepth 8192

noncomputable section

namespace Cert.InProjIdeal.Tiles

open Cert.InProjIdeal Cert.InProjIdeal.Gen
open Idealize.ShloMosaic Idealize.ShloMosaic.TcCoe Idealize.ShloMosaic.Tactic Idealize.ShloMosaic.ValueIdx

variable {F : FTy → Type} [FloatOps F]

/-! ## Tiles of the buffers that are read -/

/-- Rows `128k … 128k + 127` of a 2048-row buffer. -/
def hTile {e : EltTy} (v : Vec F S2048x1024 e) (k : ℕ) : Vec F S128x1024 e :=
  fun y => v (ix2 (n0 := 2048) (n1 := 1024) ⟨(128 * k + (y 0).val) % 2048, Nat.mod_lt _ (by decide)⟩ (y 1))

/-- Rows `128k … 128k + 127` of the input block. -/
def xTile {e : EltTy} (v : Vec F S1x2048x1024 e) (k : ℕ) : Vec F S1x128x1024 e :=
  fun y => v (ix3 (n0 := 1) (n1 := 2048) (n2 := 1024) 0 ⟨(128 * k + (y 1).val) % 2048, Nat.mod_lt _ (by decide)⟩ (y 2))

/-- The mixing matrix of group `g`. -/
def wTile {e : EltTy} (v : Vec F S8x128x128 e) (g : Fin 8) : Vec F S1x128x128 e :=
  fun y => v (ix3 (n0 := 8) (n1 := 128) (n2 := 128) g (y 1) (y 2))

/-- The mixing bias of group `g`, a column. -/
def bTile {e : EltTy} (v : Vec F S128x8 e) (g : Fin 8) : Vec F S128x1 e :=
  fun y => v (ix2 (n0 := 128) (n1 := 8) (y 0) g)

section loads

variable {κ : Kind} {sp : Space} {e : EltTy}

theorem hTile_ld (v : View sig κ sp S2048x1024 e) (f : v.ty.Contents (Elt F)) (k : ℕ) (hk : k < 16) {off : Fin 2 → ℕ}
    (inb : ∀ a, off a + S128x1024.size a ≤ S2048x1024.size a) (hoff : off = ![128 * k, 0]) :
    View.readAt (Elt F) v (Rect.unit (s := S2048x1024) off S128x1024.size inb).toLoadRect f = hTile (v.read (Elt F) f) k := by
  subst hoff
  funext y
  have h0 : (y 0).val < 128 := (y 0).isLt
  refine congrArg (v.read (Elt F) f) (funext fun a => Fin.ext ?_)
  match a with
  | ⟨0, _⟩ => show 128 * k + 1 * (y 0).val = (128 * k + (y 0).val) % 2048; omega
  | ⟨1, _⟩ => show 0 + 1 * (y 1).val = (y 1).val; omega

theorem xTile_ld (v : View sig κ sp S1x2048x1024 e) (f : v.ty.Contents (Elt F)) (k : ℕ) (hk : k < 16) {off : Fin 3 → ℕ}
    (inb : ∀ a, off a + S1x128x1024.size a ≤ S1x2048x1024.size a) (hoff : off = ![0, 128 * k, 0]) :
    View.readAt (Elt F) v (Rect.unit (s := S1x2048x1024) off S1x128x1024.size inb).toLoadRect f = xTile (v.read (Elt F) f) k := by
  subst hoff
  funext y
  have h0 : (y 0).val < 1 := (y 0).isLt
  have h1 : (y 1).val < 128 := (y 1).isLt
  refine congrArg (v.read (Elt F) f) (funext fun a => Fin.ext ?_)
  match a with
  | ⟨0, _⟩ => show 0 + 1 * (y 0).val = 0; omega
  | ⟨1, _⟩ => show 128 * k + 1 * (y 1).val = (128 * k + (y 1).val) % 2048; omega
  | ⟨2, _⟩ => show 0 + 1 * (y 2).val = (y 2).val; omega

theorem wTile_ld (v : View sig κ sp S8x128x128 e) (f : v.ty.Contents (Elt F)) (g : Fin 8) {off : Fin 3 → ℕ}
    (inb : ∀ a, off a + S1x128x128.size a ≤ S8x128x128.size a) (hoff : off = ![g.val, 0, 0]) :
    View.readAt (Elt F) v (Rect.unit (s := S8x128x128) off S1x128x128.size inb).toLoadRect f = wTile (v.read (Elt F) f) g := by
  subst hoff
  funext y
  have h0 : (y 0).val < 1 := (y 0).isLt
  refine congrArg (v.read (Elt F) f) (funext fun a => Fin.ext ?_)
  match a with
  | ⟨0, _⟩ => show g.val + 1 * (y 0).val = g.val; omega
  | ⟨1, _⟩ => show 0 + 1 * (y 1).val = (y 1).val; omega
  | ⟨2, _⟩ => show 0 + 1 * (y 2).val = (y 2).val; omega

theorem bTile_ld (v : View sig κ sp S128x8 e) (f : v.ty.Contents (Elt F)) (g : Fin 8) {off : Fin 2 → ℕ}
    (inb : ∀ a, off a + S128x1.size a ≤ S128x8.size a) (hoff : off = ![0, g.val]) :
    View.readAt (Elt F) v (Rect.unit (s := S128x8) off S128x1.size inb).toLoadRect f = bTile (v.read (Elt F) f) g := by
  subst hoff
  funext y
  have h1 : (y 1).val < 1 := (y 1).isLt
  refine congrArg (v.read (Elt F) f) (funext fun a => Fin.ext ?_)
  match a with
  | ⟨0, _⟩ => show 0 + 1 * (y 0).val = (y 0).val; omega
  | ⟨1, _⟩ => show g.val + 1 * (y 1).val = g.val; omega

end loads

/-! ## Buffers made of tiles -/

/-- The 2048-row buffer whose tile `k` is `P k`. -/
def tiled {e : EltTy} (P : ℕ → Vec F S128x1024 e) : Vec F S2048x1024 e :=
  fun y => P ((y 0).val / 128) (ix2 (n0 := 128) (n1 := 1024) ⟨(y 0).val % 128, Nat.mod_lt _ (by decide)⟩ (y 1))

/-- The output block whose tile of rows `k` is `P k`. -/
def tiled4 {e : EltTy} (P : ℕ → Vec F S1x1x128x1024 e) : Vec F S1x1x2048x1024 e :=
  fun y => P ((y 2).val / 128) (ix4 (n0 := 1) (n1 := 1) (n2 := 128) (n3 := 1024) 0 0 ⟨(y 2).val % 128, Nat.mod_lt _ (by decide)⟩ (y 3))

/-- The output block whose tile of rows `k` and columns of group `g` is `P k g`. -/
def tiled8 {e : EltTy} (P : ℕ → ℕ → Vec F S1x1x128x128 e) : Vec F S1x1x2048x1024 e :=
  fun y => P ((y 2).val / 128) ((y 3).val / 128) (ix4 (n0 := 1) (n1 := 1) (n2 := 128) (n3 := 128) 0 0
    ⟨(y 2).val % 128, Nat.mod_lt _ (by decide)⟩ ⟨(y 3).val % 128, Nat.mod_lt _ (by decide)⟩)

theorem tiled_emb {e : EltTy} (P : ℕ → Vec F S128x1024 e) (k : ℕ) {off : Fin 2 → ℕ}
    (inb : ∀ a, off a + S128x1024.size a ≤ S2048x1024.size a) (hoff : off = ![128 * k, 0])
    (x : (Rect.unit (s := S2048x1024) off S128x1024.size inb).shape.Idx) :
    P k x = tiled P ((Rect.unit (s := S2048x1024) off S128x1024.size inb).emb x) := by
  subst hoff
  have h0 : (x 0).val < 128 := (x 0).isLt
  have e0 : ((Rect.unit (s := S2048x1024) ![128 * k, 0] S128x1024.size inb).emb x 0).val = 128 * k + 1 * (x 0).val := rfl
  have e1 : ((Rect.unit (s := S2048x1024) ![128 * k, 0] S128x1024.size inb).emb x 1).val = 0 + 1 * (x 1).val := rfl
  unfold tiled
  rw [show ((Rect.unit (s := S2048x1024) ![128 * k, 0] S128x1024.size inb).emb x 0).val / 128 = k from by omega]
  refine congrArg (P k) (funext fun a => Fin.ext ?_)
  match a with
  | ⟨0, _⟩ => show (x 0).val = _ % 128; omega
  | ⟨1, _⟩ => show (x 1).val = ((Rect.unit (s := S2048x1024) ![128 * k, 0] S128x1024.size inb).emb x 1).val; omega

theorem tiled4_emb {e : EltTy} (P : ℕ → Vec F S1x1x128x1024 e) (k : ℕ) {off : Fin 4 → ℕ}
    (inb : ∀ a, off a + S1x1x128x1024.size a ≤ S1x1x2048x1024.size a) (hoff : off = ![0, 0, 128 * k, 0])
    (x : (Rect.unit (s := S1x1x2048x1024) off S1x1x128x1024.size inb).shape.Idx) :
    P k x = tiled4 P ((Rect.unit (s := S1x1x2048x1024) off S1x1x128x1024.size inb).emb x) := by
  subst hoff
  have h0 : (x 0).val < 1 := (x 0).isLt
  have h1 : (x 1).val < 1 := (x 1).isLt
  have h2 : (x 2).val < 128 := (x 2).isLt
  have e2 : ((Rect.unit (s := S1x1x2048x1024) ![0, 0, 128 * k, 0] S1x1x128x1024.size inb).emb x 2).val = 128 * k + 1 * (x 2).val := rfl
  have e3 : ((Rect.unit (s := S1x1x2048x1024) ![0, 0, 128 * k, 0] S1x1x128x1024.size inb).emb x 3).val = 0 + 1 * (x 3).val := rfl
  unfold tiled4
  rw [show ((Rect.unit (s := S1x1x2048x1024) ![0, 0, 128 * k, 0] S1x1x128x1024.size inb).emb x 2).val / 128 = k from by omega]
  refine congrArg (P k) (funext fun a => Fin.ext ?_)
  match a with
  | ⟨0, _⟩ => show (x 0).val = 0; omega
  | ⟨1, _⟩ => show (x 1).val = 0; omega
  | ⟨2, _⟩ => show (x 2).val = _ % 128; omega
  | ⟨3, _⟩ => show (x 3).val = ((Rect.unit (s := S1x1x2048x1024) ![0, 0, 128 * k, 0] S1x1x128x1024.size inb).emb x 3).val; omega

theorem tiled8_emb {e : EltTy} (P : ℕ → ℕ → Vec F S1x1x128x128 e) (k g : ℕ) {off : Fin 4 → ℕ}
    (inb : ∀ a, off a + S1x1x128x128.size a ≤ S1x1x2048x1024.size a) (hoff : off = ![0, 0, 128 * k, 128 * g])
    (x : (Rect.unit (s := S1x1x2048x1024) off S1x1x128x128.size inb).shape.Idx) :
    P k g x = tiled8 P ((Rect.unit (s := S1x1x2048x1024) off S1x1x128x128.size inb).emb x) := by
  subst hoff
  have h0 : (x 0).val < 1 := (x 0).isLt
  have h1 : (x 1).val < 1 := (x 1).isLt
  have h2 : (x 2).val < 128 := (x 2).isLt
  have h3 : (x 3).val < 128 := (x 3).isLt
  have e2 : ((Rect.unit (s := S1x1x2048x1024) ![0, 0, 128 * k, 128 * g] S1x1x128x128.size inb).emb x 2).val = 128 * k + 1 * (x 2).val := rfl
  have e3 : ((Rect.unit (s := S1x1x2048x1024) ![0, 0, 128 * k, 128 * g] S1x1x128x128.size inb).emb x 3).val = 128 * g + 1 * (x 3).val := rfl
  unfold tiled8
  rw [show ((Rect.unit (s := S1x1x2048x1024) ![0, 0, 128 * k, 128 * g] S1x1x128x128.size inb).emb x 2).val / 128 = k from by omega,
    show ((Rect.unit (s := S1x1x2048x1024) ![0, 0, 128 * k, 128 * g] S1x1x128x128.size inb).emb x 3).val / 128 = g from by omega]
  refine congrArg (P k g) (funext fun a => Fin.ext ?_)
  match a with
  | ⟨0, _⟩ => show (x 0).val = 0; omega
  | ⟨1, _⟩ => show (x 1).val = 0; omega
  | ⟨2, _⟩ => show (x 2).val = _ % 128; omega
  | ⟨3, _⟩ => show (x 3).val = _ % 128; omega

/-- The pieces `L` are blocks of `G` and cover the rows (axis `a`) before `b`. -/
def Fills {s : Shape} {e : EltTy} (a : Fin s.rank) (G : s.Idx → Elt F e) (L : List (View.Piece (Elt F) s e)) (b : ℕ) : Prop :=
  (∀ p ∈ L, ∀ x : p.1.shape.Idx, p.2 x = G (p.1.emb x)) ∧ ∀ y : s.Idx, (y a).val < b → ∃ p ∈ L, y ∈ p.1.set

theorem Fills.nil {s : Shape} {e : EltTy} (a : Fin s.rank) (G : s.Idx → Elt F e) : Fills (F := F) a G [] 0 :=
  ⟨fun _ h => absurd h List.not_mem_nil, fun _ h => absurd h (Nat.not_lt_zero _)⟩

theorem Fills.append {s : Shape} {e : EltTy} {a : Fin s.rank} {G : s.Idx → Elt F e} {L T : List (View.Piece (Elt F) s e)} {b b' : ℕ}
    (h : Fills a G L b) (hT : ∀ p ∈ T, ∀ x : p.1.shape.Idx, p.2 x = G (p.1.emb x))
    (hc : ∀ y : s.Idx, b ≤ (y a).val → (y a).val < b' → ∃ p ∈ T, y ∈ p.1.set) : Fills a G (T ++ L) b' := by
  refine ⟨fun p hp => (List.mem_append.mp hp).elim (hT p) (h.1 p), fun y hy => ?_⟩
  by_cases hb : (y a).val < b
  · obtain ⟨p, hp, hy⟩ := h.2 y hb; exact ⟨p, List.mem_append_right _ hp, hy⟩
  · obtain ⟨p, hp, hy⟩ := hc y (Nat.le_of_not_lt hb) hy; exact ⟨p, List.mem_append_left _ hp, hy⟩

theorem Fills.read {s : Shape} {e : EltTy} {κ : Kind} {sp : Space} {a : Fin s.rank} {G : s.Idx → Elt F e} {L : List (View.Piece (Elt F) s e)}
    {b : ℕ} (h : Fills a G L b) (hb : s.size a ≤ b) (v : View sig κ sp s e) (f : v.ty.Contents (Elt F)) :
    v.read (Elt F) (v.writes (Elt F) f L) = G :=
  funext fun y => View.read_writes_apply_of_pieces v f G L h.1 y (h.2 y (Nat.lt_of_lt_of_le (y a).isLt hb))

/-! ## What the loops leave -/

/-- The normalised rows: each row of the input block over its root mean square, times the gain. -/
def hnVec (x0 : Vec F S1x2048x1024 .f32) (x1 : Vec F S1x1024 .f32) : Vec F S2048x1024 .bf16 :=
  tiled fun k => k0_pay1 (xTile x0 k) x1

/-- The gelu of the rows times the weights. -/
def guVec (h : Vec F S2048x1024 .bf16) (x2 : Vec F S1024x1024 .bf16) : Vec F S2048x1024 .bf16 :=
  tiled fun k => k0_pay2 (hTile h k) x2

/-- The rows times the weights. -/
def xmVec (h : Vec F S2048x1024 .bf16) (x2 : Vec F S1024x1024 .bf16) : Vec F S1x1x2048x1024 .bf16 :=
  tiled4 fun k => k0_pay5 (hTile h k) x2

/-- The logistic of the rows times the weights. -/
def gtVec (h : Vec F S2048x1024 .bf16) (x2 : Vec F S1024x1024 .bf16) : Vec F S1x1x2048x1024 .bf16 :=
  tiled4 fun k => k0_pay6 (hTile h k) x2

/-- The gated tile of group `g`: `v47` the normalised rows, `v51` the gating rows. -/
def groupPay (v47 v51 : Vec F S128x1024 .bf16) (x4 : Vec F S8x128x128 .bf16) (x5 : Vec F S128x8 .f32) : ℕ → Vec F S1x1x128x128 .bf16
  | 0 => k0_pay8 v47 v51 (wTile x4 0) (bTile x5 0)
  | 1 => k0_pay9 v47 v51 (wTile x4 1) (bTile x5 1)
  | 2 => k0_pay12 v51 (k0_pay10 (wTile x4 2)) (k0_pay11 v47) (bTile x5 2)
  | 3 => k0_pay13 v47 v51 (wTile x4 3) (bTile x5 3)
  | 4 => k0_pay15 v51 (k0_pay14 v47 (wTile x4 4)) (bTile x5 4)
  | 5 => k0_pay16 v47 v51 (wTile x4 5) (bTile x5 5)
  | 6 => k0_pay3 v51 (k0_pay17 v47 (wTile x4 6)) (bTile x5 6)
  | _ => k0_pay4 v47 v51 (wTile x4 7) (bTile x5 7)

/-- The gMLP branch: the gating rows times the mixed rows, chunk by chunk and group by group. -/
def yaVec (h gu : Vec F S2048x1024 .bf16) (x2 : Vec F S1024x1024 .bf16) (x3 : Vec F S1x1024 .f32) (x4 : Vec F S8x128x128 .bf16)
    (x5 : Vec F S128x8 .f32) : Vec F S1x1x2048x1024 .bf16 :=
  tiled8 fun k => groupPay (k0_pay7 (hTile h k) x2 x3) (hTile gu k) x4 x5

section loops

variable (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x8 .f32) (harg7 : arg7.IsWhole) (arg8 : Memref sig .tc .vmem S1x1x2048x1024 .bf16) (harg8 : arg8.IsWhole) (arg9 : Memref sig .tc .vmem S2048x1024 .bf16) (harg9 : arg9.IsWhole) (arg10 : Memref sig .tc .vmem S2048x1024 .bf16) (harg10 : arg10.IsWhole)

theorem loop1_fills (h : k0_cond1 i = 1#1) (X2 : BufTy.Contents (Elt F) arg2.view.ty) (X3 : BufTy.Contents (Elt F) arg3.view.ty) (n : ℕ) (hn : n ≤ 16) :
    Fills (F := F) (s := S2048x1024) 0 (hnVec (arg2.view.read (Elt F) X2) (arg3.view.read (Elt F) X3))
      (pb_k0_t1 (F := F) Variants.none c none i arg2 harg2 arg3 harg3 arg4 harg4 arg5 harg5 arg6 harg6 arg7 harg7 arg8 harg8 arg9 harg9 arg10 harg10 h X2 X3 n) (128 * n) := by
  induction n with
  | zero => exact Fills.nil _ _
  | succ n ih =>
    have ht : k0_t1_loop.trips = 16 := by decide +kernel
    have hk : n < 16 := by omega
    have hs := pb_k0_t1_succ (F := F) Variants.none c none i arg2 harg2 arg3 harg3 arg4 harg4 arg5 harg5 arg6 harg6 arg7 harg7 arg8 harg8 arg9 harg9 arg10 harg10 h X2 X3 ⟨n, by omega⟩
    rw [show n + 1 = (⟨n, by omega⟩ : Fin k0_t1_loop.trips).val + 1 from rfl, hs]
    refine Fills.append (ih (by omega)) ?_ ?_
    · unfold tripL_k0_t1 trip_k0_t1
      dsimp only
      intro p hp x
      obtain rfl := List.mem_singleton.mp hp
      dsimp only
      rw [xTile_ld _ _ n hk _ (k0_off1_eq _), View.readAt_full]
      exact tiled_emb (F := F) (e := .bf16) (fun k => k0_pay1 (xTile (arg2.view.read (Elt F) X2) k) (arg3.view.read (Elt F) X3)) n _ (k0_off2_eq _) x
    · intro y hy hy'
      unfold tripL_k0_t1 trip_k0_t1
      dsimp only
      refine ⟨_, List.mem_singleton.mpr rfl, ?_⟩
      dsimp only
      rw [Rect.mem_set_unit]
      intro a
      rw [k0_off2_eq]
      match a with
      | ⟨0, _⟩ => show 128 * n ≤ (y 0).val ∧ (y 0).val < 128 * n + 128; have : 128 * n ≤ (y 0).val := hy; have : (y 0).val < 128 * (n + 1) := hy'; omega
      | ⟨1, _⟩ => show 0 ≤ (y 1).val ∧ (y 1).val < 0 + 1024; have : (y 1).val < 1024 := (y 1).isLt; omega

theorem loop2_fills (h : k0_cond1 i = 1#1) (X4 : BufTy.Contents (Elt F) arg4.view.ty) (X9 : BufTy.Contents (Elt F) arg9.view.ty) (n : ℕ) (hn : n ≤ 16) :
    Fills (F := F) (s := S2048x1024) 0 (guVec (arg9.view.read (Elt F) X9) (arg4.view.read (Elt F) X4))
      (pb_k0_t2 (F := F) Variants.none c none i arg2 harg2 arg3 harg3 arg4 harg4 arg5 harg5 arg6 harg6 arg7 harg7 arg8 harg8 arg9 harg9 arg10 harg10 h X4 X9 n) (128 * n) := by
  induction n with
  | zero => exact Fills.nil _ _
  | succ n ih =>
    have ht : k0_t2_loop.trips = 16 := by decide +kernel
    have hk : n < 16 := by omega
    have hs := pb_k0_t2_succ (F := F) Variants.none c none i arg2 harg2 arg3 harg3 arg4 harg4 arg5 harg5 arg6 harg6 arg7 harg7 arg8 harg8 arg9 harg9 arg10 harg10 h X4 X9 ⟨n, by omega⟩
    rw [show n + 1 = (⟨n, by omega⟩ : Fin k0_t2_loop.trips).val + 1 from rfl, hs]
    refine Fills.append (ih (by omega)) ?_ ?_
    · unfold tripL_k0_t2 trip_k0_t2
      dsimp only
      intro p hp x
      obtain rfl := List.mem_singleton.mp hp
      dsimp only
      rw [hTile_ld _ _ n hk _ (k0_off3_eq _), View.readAt_full]
      exact tiled_emb (F := F) (e := .bf16) (fun k => k0_pay2 (hTile (arg9.view.read (Elt F) X9) k) (arg4.view.read (Elt F) X4)) n _ (k0_off3_eq _) x
    · intro y hy hy'
      unfold tripL_k0_t2 trip_k0_t2
      dsimp only
      refine ⟨_, List.mem_singleton.mpr rfl, ?_⟩
      dsimp only
      rw [Rect.mem_set_unit]
      intro a
      rw [k0_off3_eq]
      match a with
      | ⟨0, _⟩ => show 128 * n ≤ (y 0).val ∧ (y 0).val < 128 * n + 128; have : 128 * n ≤ (y 0).val := hy; have : (y 0).val < 128 * (n + 1) := hy'; omega
      | ⟨1, _⟩ => show 0 ≤ (y 1).val ∧ (y 1).val < 0 + 1024; have : (y 1).val < 1024 := (y 1).isLt; omega

theorem loop4_fills (h : k0_cond3 i = 1#1) (X4 : BufTy.Contents (Elt F) arg4.view.ty) (X9 : BufTy.Contents (Elt F) arg9.view.ty) (n : ℕ) (hn : n ≤ 16) :
    Fills (F := F) (s := S1x1x2048x1024) 2 (xmVec (arg9.view.read (Elt F) X9) (arg4.view.read (Elt F) X4))
      (pb_k0_t4 (F := F) Variants.none c none i arg2 harg2 arg3 harg3 arg4 harg4 arg5 harg5 arg6 harg6 arg7 harg7 arg8 harg8 arg9 harg9 arg10 harg10 h X4 X9 n) (128 * n) := by
  induction n with
  | zero => exact Fills.nil _ _
  | succ n ih =>
    have ht : k0_t4_loop.trips = 16 := by decide +kernel
    have hk : n < 16 := by omega
    have hs := pb_k0_t4_succ (F := F) Variants.none c none i arg2 harg2 arg3 harg3 arg4 harg4 arg5 harg5 arg6 harg6 arg7 harg7 arg8 harg8 arg9 harg9 arg10 harg10 h X4 X9 ⟨n, by omega⟩
    rw [show n + 1 = (⟨n, by omega⟩ : Fin k0_t4_loop.trips).val + 1 from rfl, hs]
    refine Fills.append (ih (by omega)) ?_ ?_
    · unfold tripL_k0_t4 trip_k0_t4
      dsimp only
      intro p hp x
      obtain rfl := List.mem_singleton.mp hp
      dsimp only
      rw [hTile_ld _ _ n hk _ (k0_off13_eq _), View.readAt_full]
      exact tiled4_emb (F := F) (e := .bf16) (fun k => k0_pay5 (hTile (arg9.view.read (Elt F) X9) k) (arg4.view.read (Elt F) X4)) n _ (k0_off14_eq _) x
    · intro y hy hy'
      unfold tripL_k0_t4 trip_k0_t4
      dsimp only
      refine ⟨_, List.mem_singleton.mpr rfl, ?_⟩
      dsimp only
      rw [Rect.mem_set_unit]
      intro a
      rw [k0_off14_eq]
      match a with
      | ⟨0, _⟩ => show 0 ≤ (y 0).val ∧ (y 0).val < 0 + 1; have : (y 0).val < 1 := (y 0).isLt; omega
      | ⟨1, _⟩ => show 0 ≤ (y 1).val ∧ (y 1).val < 0 + 1; have : (y 1).val < 1 := (y 1).isLt; omega
      | ⟨2, _⟩ => show 128 * n ≤ (y 2).val ∧ (y 2).val < 128 * n + 128; have : 128 * n ≤ (y 2).val := hy; have : (y 2).val < 128 * (n + 1) := hy'; omega
      | ⟨3, _⟩ => show 0 ≤ (y 3).val ∧ (y 3).val < 0 + 1024; have : (y 3).val < 1024 := (y 3).isLt; omega

theorem loop5_fills (h : k0_cond4 i = 1#1) (X4 : BufTy.Contents (Elt F) arg4.view.ty) (X9 : BufTy.Contents (Elt F) arg9.view.ty) (n : ℕ) (hn : n ≤ 16) :
    Fills (F := F) (s := S1x1x2048x1024) 2 (gtVec (arg9.view.read (Elt F) X9) (arg4.view.read (Elt F) X4))
      (pb_k0_t5 (F := F) Variants.none c none i arg2 harg2 arg3 harg3 arg4 harg4 arg5 harg5 arg6 harg6 arg7 harg7 arg8 harg8 arg9 harg9 arg10 harg10 h X4 X9 n) (128 * n) := by
  induction n with
  | zero => exact Fills.nil _ _
  | succ n ih =>
    have ht : k0_t5_loop.trips = 16 := by decide +kernel
    have hk : n < 16 := by omega
    have hs := pb_k0_t5_succ (F := F) Variants.none c none i arg2 harg2 arg3 harg3 arg4 harg4 arg5 harg5 arg6 harg6 arg7 harg7 arg8 harg8 arg9 harg9 arg10 harg10 h X4 X9 ⟨n, by omega⟩
    rw [show n + 1 = (⟨n, by omega⟩ : Fin k0_t5_loop.trips).val + 1 from rfl, hs]
    refine Fills.append (ih (by omega)) ?_ ?_
    · unfold tripL_k0_t5 trip_k0_t5
      dsimp only
      intro p hp x
      obtain rfl := List.mem_singleton.mp hp
      dsimp only
      rw [hTile_ld _ _ n hk _ (k0_off15_eq _), View.readAt_full]
      exact tiled4_emb (F := F) (e := .bf16) (fun k => k0_pay6 (hTile (arg9.view.read (Elt F) X9) k) (arg4.view.read (Elt F) X4)) n _ (k0_off16_eq _) x
    · intro y hy hy'
      unfold tripL_k0_t5 trip_k0_t5
      dsimp only
      refine ⟨_, List.mem_singleton.mpr rfl, ?_⟩
      dsimp only
      rw [Rect.mem_set_unit]
      intro a
      rw [k0_off16_eq]
      match a with
      | ⟨0, _⟩ => show 0 ≤ (y 0).val ∧ (y 0).val < 0 + 1; have : (y 0).val < 1 := (y 0).isLt; omega
      | ⟨1, _⟩ => show 0 ≤ (y 1).val ∧ (y 1).val < 0 + 1; have : (y 1).val < 1 := (y 1).isLt; omega
      | ⟨2, _⟩ => show 128 * n ≤ (y 2).val ∧ (y 2).val < 128 * n + 128; have : 128 * n ≤ (y 2).val := hy; have : (y 2).val < 128 * (n + 1) := hy'; omega
      | ⟨3, _⟩ => show 0 ≤ (y 3).val ∧ (y 3).val < 0 + 1024; have : (y 3).val < 1024 := (y 3).isLt; omega

theorem loop3_fills (h : k0_cond2 i = 1#1) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (n : ℕ) (hn : n ≤ 16) :
    Fills (F := F) (s := S1x1x2048x1024) 2 (yaVec (arg9.view.read (Elt F) X9) (arg10.view.read (Elt F) X10) (arg4.view.read (Elt F) X4) (arg5.view.read (Elt F) X5) (arg6.view.read (Elt F) X6) (arg7.view.read (Elt F) X7))
      (pb_k0_t3 (F := F) Variants.none c none i arg2 harg2 arg3 harg3 arg4 harg4 arg5 harg5 arg6 harg6 arg7 harg7 arg8 harg8 arg9 harg9 arg10 harg10 h X4 X5 X6 X7 X9 X10 n) (128 * n) := by
  induction n with
  | zero => exact Fills.nil _ _
  | succ n ih =>
    have ht : k0_t3_loop.trips = 16 := by decide +kernel
    have hk : n < 16 := by omega
    have hs := pb_k0_t3_succ (F := F) Variants.none c none i arg2 harg2 arg3 harg3 arg4 harg4 arg5 harg5 arg6 harg6 arg7 harg7 arg8 harg8 arg9 harg9 arg10 harg10 h X4 X5 X6 X7 X9 X10 ⟨n, by omega⟩
    rw [show n + 1 = (⟨n, by omega⟩ : Fin k0_t3_loop.trips).val + 1 from rfl, hs]
    refine Fills.append (ih (by omega)) ?_ ?_
    · unfold tripL_k0_t3 trip_k0_t3
      dsimp only
      unfold trip_k0_t3.sl.r_2 trip_k0_t3.sl.r_3 trip_k0_t3.sl.r_4 trip_k0_t3.sl.r_5 trip_k0_t3.sl.r_6 trip_k0_t3.sl.r trip_k0_t3.sl.r_1
      simp only [List.forall_mem_cons]
      refine ⟨?_, ?_, ?_, ?_, ?_, ?_, ?_, ?_, fun _ h => absurd h List.not_mem_nil⟩
      all_goals intro x
      all_goals simp only [hTile_ld arg9.view X9 n hk _ (k0_off4_eq ⟨n, by omega⟩), hTile_ld arg10.view X10 n hk _ (k0_off4_eq ⟨n, by omega⟩), View.readAt_full (s := S1024x1024), View.readAt_full (s := S1x1024)]
      · simp only [wTile_ld (off := ![7, 0, 0]) arg6.view X6 7 _ rfl, bTile_ld (off := ![0, 7]) arg7.view X7 7 _ rfl]
        exact tiled8_emb (F := F) (e := .bf16) (fun k => groupPay (k0_pay7 (hTile (arg9.view.read (Elt F) X9) k) (arg4.view.read (Elt F) X4) (arg5.view.read (Elt F) X5)) (hTile (arg10.view.read (Elt F) X10) k) (arg6.view.read (Elt F) X6) (arg7.view.read (Elt F) X7)) n 7 _ (k0_off12_eq _) x
      · simp only [wTile_ld (off := ![6, 0, 0]) arg6.view X6 6 _ rfl, bTile_ld (off := ![0, 6]) arg7.view X7 6 _ rfl]
        exact tiled8_emb (F := F) (e := .bf16) (fun k => groupPay (k0_pay7 (hTile (arg9.view.read (Elt F) X9) k) (arg4.view.read (Elt F) X4) (arg5.view.read (Elt F) X5)) (hTile (arg10.view.read (Elt F) X10) k) (arg6.view.read (Elt F) X6) (arg7.view.read (Elt F) X7)) n 6 _ (k0_off11_eq _) x
      · simp only [wTile_ld (off := ![5, 0, 0]) arg6.view X6 5 _ rfl, bTile_ld (off := ![0, 5]) arg7.view X7 5 _ rfl]
        exact tiled8_emb (F := F) (e := .bf16) (fun k => groupPay (k0_pay7 (hTile (arg9.view.read (Elt F) X9) k) (arg4.view.read (Elt F) X4) (arg5.view.read (Elt F) X5)) (hTile (arg10.view.read (Elt F) X10) k) (arg6.view.read (Elt F) X6) (arg7.view.read (Elt F) X7)) n 5 _ (k0_off10_eq _) x
      · simp only [wTile_ld (off := ![4, 0, 0]) arg6.view X6 4 _ rfl, bTile_ld (off := ![0, 4]) arg7.view X7 4 _ rfl]
        exact tiled8_emb (F := F) (e := .bf16) (fun k => groupPay (k0_pay7 (hTile (arg9.view.read (Elt F) X9) k) (arg4.view.read (Elt F) X4) (arg5.view.read (Elt F) X5)) (hTile (arg10.view.read (Elt F) X10) k) (arg6.view.read (Elt F) X6) (arg7.view.read (Elt F) X7)) n 4 _ (k0_off9_eq _) x
      · simp only [wTile_ld (off := ![3, 0, 0]) arg6.view X6 3 _ rfl, bTile_ld (off := ![0, 3]) arg7.view X7 3 _ rfl]
        exact tiled8_emb (F := F) (e := .bf16) (fun k => groupPay (k0_pay7 (hTile (arg9.view.read (Elt F) X9) k) (arg4.view.read (Elt F) X4) (arg5.view.read (Elt F) X5)) (hTile (arg10.view.read (Elt F) X10) k) (arg6.view.read (Elt F) X6) (arg7.view.read (Elt F) X7)) n 3 _ (k0_off8_eq _) x
      · simp only [wTile_ld (off := ![2, 0, 0]) arg6.view X6 2 _ rfl, bTile_ld (off := ![0, 2]) arg7.view X7 2 _ rfl]
        exact tiled8_emb (F := F) (e := .bf16) (fun k => groupPay (k0_pay7 (hTile (arg9.view.read (Elt F) X9) k) (arg4.view.read (Elt F) X4) (arg5.view.read (Elt F) X5)) (hTile (arg10.view.read (Elt F) X10) k) (arg6.view.read (Elt F) X6) (arg7.view.read (Elt F) X7)) n 2 _ (k0_off7_eq _) x
      · simp only [wTile_ld (off := ![1, 0, 0]) arg6.view X6 1 _ rfl, bTile_ld (off := ![0, 1]) arg7.view X7 1 _ rfl]
        exact tiled8_emb (F := F) (e := .bf16) (fun k => groupPay (k0_pay7 (hTile (arg9.view.read (Elt F) X9) k) (arg4.view.read (Elt F) X4) (arg5.view.read (Elt F) X5)) (hTile (arg10.view.read (Elt F) X10) k) (arg6.view.read (Elt F) X6) (arg7.view.read (Elt F) X7)) n 1 _ (k0_off6_eq _) x
      · simp only [wTile_ld (off := ![0, 0, 0]) arg6.view X6 0 _ rfl, bTile_ld (off := ![0, 0]) arg7.view X7 0 _ rfl]
        exact tiled8_emb (F := F) (e := .bf16) (fun k => groupPay (k0_pay7 (hTile (arg9.view.read (Elt F) X9) k) (arg4.view.read (Elt F) X4) (arg5.view.read (Elt F) X5)) (hTile (arg10.view.read (Elt F) X10) k) (arg6.view.read (Elt F) X6) (arg7.view.read (Elt F) X7)) n 0 _ (k0_off5_eq _) x
    · intro y hy hy'
      unfold tripL_k0_t3 trip_k0_t3
      dsimp only
      have h2 : 128 * n ≤ (y 2).val := hy
      have h2' : (y 2).val < 128 * (n + 1) := hy'
      have h0 : (y 0).val < 1 := (y 0).isLt
      have h1 : (y 1).val < 1 := (y 1).isLt
      have h3 : (y 3).val < 1024 := (y 3).isLt
      have key : ∀ (g : ℕ) (off : Fin 4 → ℕ) (inb : ∀ a, off a + S1x1x128x128.size a ≤ S1x1x2048x1024.size a) (hoff : off = ![0, 0, 128 * n, 128 * g]),
          (y 3).val / 128 = g → y ∈ (Rect.unit (s := S1x1x2048x1024) off S1x1x128x128.size inb).set := by
        intro g off inb hoff hg
        subst hoff
        rw [Rect.mem_set_unit]
        intro a
        match a with
        | ⟨0, _⟩ => show 0 ≤ (y 0).val ∧ (y 0).val < 0 + 1; omega
        | ⟨1, _⟩ => show 0 ≤ (y 1).val ∧ (y 1).val < 0 + 1; omega
        | ⟨2, _⟩ => show 128 * n ≤ (y 2).val ∧ (y 2).val < 128 * n + 128; omega
        | ⟨3, _⟩ => show 128 * g ≤ (y 3).val ∧ (y 3).val < 128 * g + 128; omega
      have hg : (y 3).val / 128 < 8 := by omega
      simp only [List.exists_mem_cons_iff]
      rcases (by omega : (y 3).val / 128 = 7 ∨ (y 3).val / 128 = 6 ∨ (y 3).val / 128 = 5 ∨ (y 3).val / 128 = 4 ∨ (y 3).val / 128 = 3 ∨ (y 3).val / 128 = 2 ∨ (y 3).val / 128 = 1 ∨ (y 3).val / 128 = 0) with hg | hg | hg | hg | hg | hg | hg | hg
      · exact .inl (key 7 _ _ (k0_off12_eq _) hg)
      · exact .inr (.inl (key 6 _ _ (k0_off11_eq _) hg))
      · exact .inr (.inr (.inl (key 5 _ _ (k0_off10_eq _) hg)))
      · exact .inr (.inr (.inr (.inl (key 4 _ _ (k0_off9_eq _) hg))))
      · exact .inr (.inr (.inr (.inr (.inl (key 3 _ _ (k0_off8_eq _) hg)))))
      · exact .inr (.inr (.inr (.inr (.inr (.inl (key 2 _ _ (k0_off7_eq _) hg))))))
      · exact .inr (.inr (.inr (.inr (.inr (.inr (.inl (key 1 _ _ (k0_off6_eq _) hg)))))))
      · exact .inr (.inr (.inr (.inr (.inr (.inr (.inr (.inl (key 0 _ _ (k0_off5_eq _) hg))))))))

end loops

end Cert.InProjIdeal.Tiles

end
-- ==== Proof.InProjIdealCases.lean ====
/- The body of `cc0_in_proj` at a grid point, case by case: which buffers it leaves at which named vector
   (`Tiles`), from the input blocks and the two scratch buffers it finds. Nothing here depends on the float values. -/
module

public import proofs.«01_k».proof.Proof.InProjIdealTiles

@[expose] public section

set_option maxRecDepth 16384

noncomputable section

namespace Cert.InProjIdeal.Cases

open Cert.InProjIdeal Cert.InProjIdeal.Gen Cert.InProjIdeal.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S1x2048x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S128x8 .f32) (harg7 : arg7.IsWhole) (arg8 : Memref sig .tc .vmem S1x1x2048x1024 .bf16) (harg8 : arg8.IsWhole) (arg9 : Memref sig .tc .vmem S2048x1024 .bf16) (harg9 : arg9.IsWhole) (arg10 : Memref sig .tc .vmem S2048x1024 .bf16) (harg10 : arg10.IsWhole)
  (x0 : Vec F S1x2048x1024 .f32) (x1 : Vec F S1x1024 .f32) (x2 : Vec F S1024x1024 .bf16) (x3 : Vec F S1x1024 .f32) (x4 : Vec F S8x128x128 .bf16) (x5 : Vec F S128x8 .f32)

theorem trips1 : Scf.trips k0_t1_loop.lb k0_t1_loop.ub k0_t1_loop.st = 16 := by decide +kernel
theorem trips2 : Scf.trips k0_t2_loop.lb k0_t2_loop.ub k0_t2_loop.st = 16 := by decide +kernel
theorem trips3 : Scf.trips k0_t3_loop.lb k0_t3_loop.ub k0_t3_loop.st = 16 := by decide +kernel
theorem trips4 : Scf.trips k0_t4_loop.lb k0_t4_loop.ub k0_t4_loop.st = 16 := by decide +kernel
theorem trips5 : Scf.trips k0_t5_loop.lb k0_t5_loop.ub k0_t5_loop.st = 16 := by decide +kernel

/-- The row's first point: the normalised rows and the gelu of their first projection, into the scratch buffers. -/
theorem caseA (hc0 : cond0_0 i) (hc1 : ¬cond0_1 i) (hc2 : ¬cond0_2 i) (hc3 : ¬cond0_3 i) (xi6 : Vec F S1x1x2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (hnVec x0 x1) ∗ owns (c : Thread nD τ) arg10 fullShare (guVec (hnVec x0 x1) x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  have e9 : ∀ f, arg9.view.read (Elt F) (arg9.view.writes (Elt F) f (pb_k0_t1 (F := F) Variants.none c none i arg2 harg2 arg3 harg3 arg4 harg4 arg5 harg5 arg6 harg6 arg7 harg7 arg8 harg8 arg9 harg9 arg10 harg10 hc0 (harg2.unread x0) (harg3.unread x1) (Scf.trips k0_t1_loop.lb k0_t1_loop.ub k0_t1_loop.st))) = hnVec x0 x1 := fun f => by
    rw [trips1]
    refine ((loop1_fills c i arg2 harg2 arg3 harg3 arg4 harg4 arg5 harg5 arg6 harg6 arg7 harg7 arg8 harg8 arg9 harg9 arg10 harg10 hc0 (harg2.unread x0) (harg3.unread x1) 16 le_rfl).read (by decide) _ _).trans ?_
    rw [harg2.read_unread, harg3.read_unread]
  isplitl [HS0]
  · iexists _; isplitr
    swap; · iexact HS0
    ipureintro
    exact e9 _
  iexists _; isplitr
  swap; · iexact HS1
  ipureintro
  rw [trips2]
  refine ((loop2_fills c i arg2 harg2 arg3 harg3 arg4 harg4 arg5 harg5 arg6 harg6 arg7 harg7 arg8 harg8 arg9 harg9 arg10 harg10 hc0 _ _ 16 le_rfl).read (by decide) _ _).trans ?_
  rw [harg4.read_unread]
  exact congrArg (fun h => guVec h x2) (e9 _)

/-- The gMLP branch. -/
theorem caseB (hc0 : ¬cond0_0 i) (hc1 : cond0_1 i) (hc2 : ¬cond0_2 i) (hc3 : ¬cond0_3 i) (h gu : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare h ∗ owns (c : Thread nD τ) arg10 fullShare gu
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (yaVec h gu x2 x3 x4 x5) ∗ owns (c : Thread nD τ) arg9 fullShare h ∗ owns (c : Thread nD τ) arg10 fullShare gu) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [trips3]
    refine ((loop3_fills c i arg2 harg2 arg3 harg3 arg4 harg4 arg5 harg5 arg6 harg6 arg7 harg7 arg8 harg8 arg9 harg9 arg10 harg10 hc1 _ _ _ _ _ _ 16 le_rfl).read (by decide) _ _).trans ?_
    rw [harg9.read_unread, harg10.read_unread, harg4.read_unread, harg5.read_unread, harg6.read_unread, harg7.read_unread]
  isplitl [HS0]
  · iexists _; isplitr; · ipureintro; exact harg9.read_unread _
    iexact HS0
  iexists _; isplitr; · ipureintro; exact harg10.read_unread _
  iexact HS1

/-- The rows' plain projection. -/
theorem caseC (hc0 : ¬cond0_0 i) (hc1 : ¬cond0_1 i) (hc2 : cond0_2 i) (hc3 : ¬cond0_3 i) (h gu : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare h ∗ owns (c : Thread nD τ) arg10 fullShare gu
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (xmVec h x2) ∗ owns (c : Thread nD τ) arg9 fullShare h ∗ owns (c : Thread nD τ) arg10 fullShare gu) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [trips4]
    refine ((loop4_fills c i arg2 harg2 arg3 harg3 arg4 harg4 arg5 harg5 arg6 harg6 arg7 harg7 arg8 harg8 arg9 harg9 arg10 harg10 hc2 _ _ 16 le_rfl).read (by decide) _ _).trans ?_
    rw [harg9.read_unread, harg4.read_unread]
  isplitl [HS0]
  · iexists _; isplitr; · ipureintro; exact harg9.read_unread _
    iexact HS0
  iexists _; isplitr; · ipureintro; exact harg10.read_unread _
  iexact HS1

/-- The logistic of the rows' projection. -/
theorem caseD (hc0 : ¬cond0_0 i) (hc1 : ¬cond0_1 i) (hc2 : ¬cond0_2 i) (hc3 : cond0_3 i) (h gu : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare h ∗ owns (c : Thread nD τ) arg10 fullShare gu
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (gtVec h x2) ∗ owns (c : Thread nD τ) arg9 fullShare h ∗ owns (c : Thread nD τ) arg10 fullShare gu) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [trips5]
    refine ((loop5_fills c i arg2 harg2 arg3 harg3 arg4 harg4 arg5 harg5 arg6 harg6 arg7 harg7 arg8 harg8 arg9 harg9 arg10 harg10 hc3 _ _ 16 le_rfl).read (by decide) _ _).trans ?_
    rw [harg9.read_unread, harg4.read_unread]
  isplitl [HS0]
  · iexists _; isplitr; · ipureintro; exact harg9.read_unread _
    iexact HS0
  iexists _; isplitr; · ipureintro; exact harg10.read_unread _
  iexact HS1

end Cert.InProjIdeal.Cases

end
-- ==== Proof.InProjIdealLaunch.lean ====
/- The pipeline of `cc0_in_proj`: what its buffers hold point by point, the body's triple at every point, and the
   launch: every run ends with the arrays at what the data says, the arguments unchanged and the counters at zero.
   Nothing here depends on the float values. -/
module

public import proofs.«01_k».proof.Proof.InProjIdealCases
public import Idealize.ShloMosaic.Lib.Claim

@[expose] public section

set_option maxRecDepth 16384

noncomputable section

namespace Cert.InProjIdeal.Launch

open Cert.InProjIdeal Cert.InProjIdeal.Gen Cert.InProjIdeal.Tiles Cert.InProjIdeal.Cases
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point of the grid row that point `n` lies in. -/
def rowPt (n : ℕ) (hn : n < cfg0.N) : Fin cfg0.N := ⟨6 * (n / 6), by omega⟩

theorem rowPt_first (t : Fin cfg0.N) (h : t.val % 6 = 0) : rowPt t.val t.isLt = t := Fin.ext (by show 6 * (t.val / 6) = t.val; omega)

theorem rowPt_pred (n : ℕ) (hn : n < cfg0.N) (h : n % 6 ≠ 0) : rowPt (n - 1) (by omega) = rowPt n hn :=
  Fin.ext (by show 6 * ((n - 1) / 6) = 6 * (n / 6); omega)

/-- The first scratch buffer after point `p`'s row has begun: the normalised rows. -/
def hs (c : Dev nD) (p : Fin cfg0.N) : Vec F S2048x1024 .bf16 := hnVec (iblk m c 0 p) (iblk m c 1 p)

/-- The second: the gelu of their first projection. -/
def gs (c : Dev nD) (p : Fin cfg0.N) : Vec F S2048x1024 .bf16 := guVec (hs m c p) (iblk m c 2 p)

/-- The output block after point `t` (at a row's first point the output is untouched, and the value below is not used). -/
def outs (c : Dev nD) (t : Fin cfg0.N) : Vec F S1x1x2048x1024 .bf16 :=
  if t.val % 6 = 1 then
    yaVec (hs m c (rowPt t.val t.isLt)) (gs m c (rowPt t.val t.isLt)) (iblk m c 2 t) (iblk m c 3 t) (iblk m c 4 t) (iblk m c 5 t)
  else if t.val % 6 = 2 then xmVec (hs m c (rowPt t.val t.isLt)) (iblk m c 2 t)
  else gtVec (hs m c (rowPt t.val t.isLt)) (iblk m c 2 t)

/-- The invariant before point `n`: at first whatever the launch hands over, afterwards the two scratch buffers at their row's vectors. -/
def Inv (c : Dev nD) : (n : ℕ) → n ≤ cfg0.N → sProp 𝕄
  | 0, _ => Pipeline.ΦA spec0 c
  | n + 1, hn => iprop(iprop(owns (c : Thread nD τ) scM0_0 fullShare (hs m c (rowPt n hn)) ∗ owns (c : Thread nD τ) scM0_1 fullShare (gs m c (rowPt n hn))) ∗ (∃ r, prngReg c r))

theorem Inv_pos (c : Dev nD) (n : ℕ) (h : n ≤ cfg0.N) (hz : n ≠ 0) :
    Inv m c n h = iprop(iprop(owns (c : Thread nD τ) scM0_0 fullShare (hs m c (rowPt (n - 1) (by omega))) ∗ owns (c : Thread nD τ) scM0_1 fullShare (gs m c (rowPt (n - 1) (by omega)))) ∗ (∃ r, prngReg c r)) := by
  cases n with
  | zero => exact absurd rfl hz
  | succ n => rfl

/-- The invariant, its contents forgotten. -/
theorem Inv_weak (c : Dev nD) (n : ℕ) (h : n ≤ cfg0.N) : Inv m c n h ⊢ Pipeline.ΦA spec0 c := by
  cases n with
  | zero => exact Idealize.SL.BI.Entails.refl _
  | succ n =>
    rw [Inv_pos m c (n + 1) h (Nat.succ_ne_zero n), PhiA0_eq]
    iintro ⟨⟨HS0, HS1⟩, Hg⟩
    isplitl [HS0 HS1]
    · isplitl [HS0]
      · iexists _; iexact HS0
      iexists _; iexact HS1
    iexact Hg

/-- The proof data of the pipeline: every input buffer at its block, the output's at `outs`, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outs m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) :
    (dats m 0 c).leavesExact 0 t = owns (c : Thread nD τ) (ms0_0 t) fullShare (iblk m c 0 t) := by
  unfold Dat.leavesExact; rw [liveAt0_0 t, after0]
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) :
    (dats m 0 c).leavesExact 1 t = owns (c : Thread nD τ) (ms0_1 t) fullShare (iblk m c 1 t) := by
  unfold Dat.leavesExact; rw [liveAt0_1 t, after1]
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) :
    (dats m 0 c).leavesExact 2 t = owns (c : Thread nD τ) (ms0_2 t) fullShare (iblk m c 2 t) := by
  unfold Dat.leavesExact; rw [liveAt0_2 t, after2]
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) :
    (dats m 0 c).leavesExact 3 t = owns (c : Thread nD τ) (ms0_3 t) fullShare (iblk m c 3 t) := by
  unfold Dat.leavesExact; rw [liveAt0_3 t, after3]
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) :
    (dats m 0 c).leavesExact 4 t = owns (c : Thread nD τ) (ms0_4 t) fullShare (iblk m c 4 t) := by
  unfold Dat.leavesExact; rw [liveAt0_4 t, after4]
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) :
    (dats m 0 c).leavesExact 5 t = owns (c : Thread nD τ) (ms0_5 t) fullShare (iblk m c 5 t) := by
  unfold Dat.leavesExact; rw [liveAt0_5 t, after5]
theorem after6 (c : Dev nD) (t : Fin cfg0.N) : (dats m 0 c).after 6 t = outs m c t := by dsimp only [dats]
theorem leaves6 (c : Dev nD) (t : Fin cfg0.N) (h : cfg0.idle 6 (grid0.coords t) = false) :
    (dats m 0 c).leavesExact 6 t = owns (c : Thread nD τ) (ms0_6 t) fullShare (outs m c t) := by
  unfold Dat.leavesExact; rw [h, after6]

/-! ## The body at every point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- At a row's first point. -/
theorem sound_first (c : Dev nD) (t : Fin cfg0.N) (hj : t.val % 6 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5]
  rw [show (dats m 0 c).owesAt () t.succ = (dats m 0 c).owesAt () t.castSucc from rfl]
  rw [show (dats m 0 c).Φ t.succ = Inv m c (t.val + 1) t.isLt from rfl, Inv_pos m c (t.val + 1) t.isLt (Nat.succ_ne_zero _)]
  simp only [Nat.add_sub_cancel]
  rw [Dat.leavesExact_idle (dats m 0 c) 6 t (idleAt0_6_A t ((hcond0_0 t).mpr hj) (fun h => absurd ((hcond0_1 t).mp h) (by omega)) (fun h => absurd ((hcond0_2 t).mp h) (by omega)) (fun h => absurd ((hcond0_3 t).mp h) (by omega))) (noFlush0_6_A t ((hcond0_0 t).mpr hj) (fun h => absurd ((hcond0_1 t).mp h) (by omega)) (fun h => absurd ((hcond0_2 t).mp h) (by omega)) (fun h => absurd ((hcond0_3 t).mp h) (by omega)))]
  rw [Inv_castSucc m c t, rowPt_first t hj]
  refine Idealize.SL.BI.Laws.sep_mono (Inv_weak m c _ _) (Idealize.SL.BI.Entails.refl _) |>.trans ?_
  rw [PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (caseA c (grid0.coords t) _ _ _ _ _ _ _ _ _ _ _ _ _ _ _ _ _ _ (x0 := iblk m c 0 t) (x1 := iblk m c 1 t) (x2 := iblk m c 2 t) (x3 := iblk m c 3 t) (x4 := iblk m c 4 t) (x5 := iblk m c 5 t) ((hcond0_0 t).mpr hj) (fun h => absurd ((hcond0_1 t).mp h) (by omega)) (fun h => absurd ((hcond0_2 t).mp h) (by omega)) (fun h => absurd ((hcond0_3 t).mp h) (by omega)) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

theorem outs_B (c : Dev nD) (t : Fin cfg0.N) (hj : t.val % 6 = 1) : outs m c t = yaVec (hs m c (rowPt t.val t.isLt)) (gs m c (rowPt t.val t.isLt)) (iblk m c 2 t) (iblk m c 3 t) (iblk m c 4 t) (iblk m c 5 t) :=
  by unfold outs; rw [if_pos hj]

set_option maxHeartbeats 4000000 in
/-- At a row's points with case B. -/
theorem sound_B (c : Dev nD) (t : Fin cfg0.N) (hj : t.val % 6 = 1) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5]
  rw [show (dats m 0 c).owesAt () t.succ = (dats m 0 c).owesAt () t.castSucc from rfl]
  rw [show (dats m 0 c).Φ t.succ = Inv m c (t.val + 1) t.isLt from rfl, Inv_pos m c (t.val + 1) t.isLt (Nat.succ_ne_zero _)]
  simp only [Nat.add_sub_cancel]
  rw [leaves6 m c t (liveAt0_6_B t (fun h => absurd ((hcond0_0 t).mp h) (by omega)) ((hcond0_1 t).mpr hj) (fun h => absurd ((hcond0_2 t).mp h) (by omega)) (fun h => absurd ((hcond0_3 t).mp h) (by omega))), outs_B m c t hj]
  rw [Inv_castSucc m c t, Inv_pos m c t.val _ (by omega), rowPt_pred t.val t.isLt (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (caseB c (grid0.coords t) _ _ _ _ _ _ _ _ _ _ _ _ _ _ _ _ _ _ (x0 := iblk m c 0 t) (x1 := iblk m c 1 t) (x2 := iblk m c 2 t) (x3 := iblk m c 3 t) (x4 := iblk m c 4 t) (x5 := iblk m c 5 t) (fun h => absurd ((hcond0_0 t).mp h) (by omega)) ((hcond0_1 t).mpr hj) (fun h => absurd ((hcond0_2 t).mp h) (by omega)) (fun h => absurd ((hcond0_3 t).mp h) (by omega)) (hs m c (rowPt t.val t.isLt)) (gs m c (rowPt t.val t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem outs_C (c : Dev nD) (t : Fin cfg0.N) (hj : t.val % 6 = 2) : outs m c t = xmVec (hs m c (rowPt t.val t.isLt)) (iblk m c 2 t) :=
  by unfold outs; rw [if_neg (by omega), if_pos hj]

set_option maxHeartbeats 4000000 in
/-- At a row's points with case C. -/
theorem sound_C (c : Dev nD) (t : Fin cfg0.N) (hj : t.val % 6 = 2) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5]
  rw [show (dats m 0 c).owesAt () t.succ = (dats m 0 c).owesAt () t.castSucc from rfl]
  rw [show (dats m 0 c).Φ t.succ = Inv m c (t.val + 1) t.isLt from rfl, Inv_pos m c (t.val + 1) t.isLt (Nat.succ_ne_zero _)]
  simp only [Nat.add_sub_cancel]
  rw [leaves6 m c t (liveAt0_6_C t (fun h => absurd ((hcond0_0 t).mp h) (by omega)) (fun h => absurd ((hcond0_1 t).mp h) (by omega)) ((hcond0_2 t).mpr hj) (fun h => absurd ((hcond0_3 t).mp h) (by omega))), outs_C m c t hj]
  rw [Inv_castSucc m c t, Inv_pos m c t.val _ (by omega), rowPt_pred t.val t.isLt (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (caseC c (grid0.coords t) _ _ _ _ _ _ _ _ _ _ _ _ _ _ _ _ _ _ (x0 := iblk m c 0 t) (x1 := iblk m c 1 t) (x2 := iblk m c 2 t) (x3 := iblk m c 3 t) (x4 := iblk m c 4 t) (x5 := iblk m c 5 t) (fun h => absurd ((hcond0_0 t).mp h) (by omega)) (fun h => absurd ((hcond0_1 t).mp h) (by omega)) ((hcond0_2 t).mpr hj) (fun h => absurd ((hcond0_3 t).mp h) (by omega)) (hs m c (rowPt t.val t.isLt)) (gs m c (rowPt t.val t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem outs_D (c : Dev nD) (t : Fin cfg0.N) (hj : 3 ≤ t.val % 6) : outs m c t = gtVec (hs m c (rowPt t.val t.isLt)) (iblk m c 2 t) :=
  by unfold outs; rw [if_neg (by omega), if_neg (by omega)]

set_option maxHeartbeats 4000000 in
/-- At a row's points with case D. -/
theorem sound_D (c : Dev nD) (t : Fin cfg0.N) (hj : 3 ≤ t.val % 6) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5]
  rw [show (dats m 0 c).owesAt () t.succ = (dats m 0 c).owesAt () t.castSucc from rfl]
  rw [show (dats m 0 c).Φ t.succ = Inv m c (t.val + 1) t.isLt from rfl, Inv_pos m c (t.val + 1) t.isLt (Nat.succ_ne_zero _)]
  simp only [Nat.add_sub_cancel]
  rw [leaves6 m c t (liveAt0_6_D t (fun h => absurd ((hcond0_0 t).mp h) (by omega)) (fun h => absurd ((hcond0_1 t).mp h) (by omega)) (fun h => absurd ((hcond0_2 t).mp h) (by omega)) ((hcond0_3 t).mpr hj)), outs_D m c t hj]
  rw [Inv_castSucc m c t, Inv_pos m c t.val _ (by omega), rowPt_pred t.val t.isLt (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (caseD c (grid0.coords t) _ _ _ _ _ _ _ _ _ _ _ _ _ _ _ _ _ _ (x0 := iblk m c 0 t) (x1 := iblk m c 1 t) (x2 := iblk m c 2 t) (x3 := iblk m c 3 t) (x4 := iblk m c 4 t) (x5 := iblk m c 5 t) (fun h => absurd ((hcond0_0 t).mp h) (by omega)) (fun h => absurd ((hcond0_1 t).mp h) (by omega)) (fun h => absurd ((hcond0_2 t).mp h) (by omega)) ((hcond0_3 t).mpr hj) (hs m c (rowPt t.val t.isLt)) (gs m c (rowPt t.val t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt0 t) (fun _ => bodyPost m c t) := by
  rcases (by omega : t.val % 6 = 0 ∨ t.val % 6 = 1 ∨ t.val % 6 = 2 ∨ 3 ≤ t.val % 6) with h | h | h | h
  · exact sound_first m c t h
  · exact sound_B m c t h
  · exact sound_C m c t h
  · exact sound_D m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_weak m c _ _

/-! ## The run and the frame -/

set_option backward.isDefEq.respectTransparency.types false in
/-- The launch: every array at what the data says, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.InProjIdeal.Launch

end
-- ==== Proof.InProjSpec.lean ====
/- What the layer's input projection computes, written once over the extended reals with no program in sight: the rows
   normalised, times the input weights, and of the six column bands of the product the five results — the gated spatial
   mixing of the first two bands, the third band as it is, and the logistic of the last three. -/
module

public import Idealize.ShloMosaic.Lib.Pointwise

@[expose] public section

noncomputable section

namespace Cert.InProjSpec

open Idealize.ShloMosaic

/-- A row of 1024 divided by its root mean square and multiplied by a gain. -/
def rms (v g : Fin 1024 → EReal) (k : Fin 1024) : EReal :=
  v k * Ideal.rsqrt (Ideal.div (∑ j, v j * v j) (Ideal.ofBits .f32 0x44800000#32) + Ideal.ofBits .f32 0x358637BD#32) * g k

/-- The gelu by the hyperbolic tangent. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- One row of the input times one column of the weights. -/
def dot (h : Fin 1024 → EReal) (w : Fin 1024 → Fin 1024 → EReal) (n : Fin 1024) : EReal := ∑ d, h d * w d n

/-- The gated mixing of one column `n` at one row: `u` the gating value, `ws` the row of the mixing matrix, `v` the column's
    128 rows, `b` the bias. -/
def mix (u : EReal) (ws v : Fin 128 → EReal) (b : EReal) : EReal := u * (∑ s, ws s * v s + b)

/-- Row `s` of the 128-row chunk that row `r` lies in. -/
abbrev tileRow (r : Fin 2048) (s : Fin 128) : Fin 2048 := ⟨(128 * (r.val / 128) + s.val) % 2048, Nat.mod_lt _ (by decide)⟩
/-- The row within its chunk. -/
abbrev inTile (r : Fin 2048) : Fin 128 := ⟨r.val % 128, Nat.mod_lt _ (by decide)⟩
/-- The group of 128 columns that a column lies in. -/
abbrev grp (n : Fin 1024) : Fin 8 := ⟨n.val / 128, by omega⟩
/-- The column within its group. -/
abbrev inGrp (n : Fin 1024) : Fin 128 := ⟨n.val % 128, Nat.mod_lt _ (by decide)⟩

/-- The arguments: input, its gain, the input weights, the gain of the mixed values, the mixing matrices and their biases. -/
structure In where
  x : Fin 2 → Fin 2048 → Fin 1024 → EReal
  g : Fin 1024 → EReal
  w : Fin 1024 → Fin 6144 → EReal
  gv : Fin 1024 → EReal
  ws : Fin 8 → Fin 128 → Fin 128 → EReal
  bs : Fin 8 → Fin 128 → EReal

namespace In

variable (A : In)

/-- Row `r` of sequence `b`, normalised. -/
def h (b : Fin 2) (r : Fin 2048) : Fin 1024 → EReal := rms (A.x b r) A.g
/-- Column band `k` of the weights. -/
def band (k : Fin 6) (d n : Fin 1024) : EReal := A.w d ⟨1024 * k.val + n.val, by omega⟩
/-- The product's column band `k`. -/
def z (k : Fin 6) (b : Fin 2) (r : Fin 2048) (n : Fin 1024) : EReal := dot (A.h b r) (A.band k) n
/-- The values that are mixed. -/
def v (b : Fin 2) (r : Fin 2048) : Fin 1024 → EReal := rms (fun n => gelu (A.z 1 b r n)) A.gv
/-- The gated mixing. -/
def ya (b : Fin 2) (r : Fin 2048) (n : Fin 1024) : EReal :=
  mix (gelu (A.z 0 b r n)) (fun s => A.ws (grp n) (inTile r) s) (fun s => A.v b (tileRow r s) n) (A.bs (grp n) (inTile r))

/-- The five results, stacked. -/
def out (s : Fin 5) (b : Fin 2) (r : Fin 2048) (n : Fin 1024) : EReal :=
  match s with
  | 0 => A.ya b r n
  | 1 => A.z 2 b r n
  | 2 => Ideal.logistic (A.z 3 b r n)
  | 3 => Ideal.logistic (A.z 4 b r n)
  | 4 => Ideal.logistic (A.z 5 b r n)

end In

end Cert.InProjSpec

end
-- ==== Proof.InProjIdealPays.lean ====
/- What `cc0_in_proj` stores, read at one element over the extended reals: each stored tile as the plain function of
   `Cert.InProjSpec` of what the tile was computed from. -/
module

public import proofs.«01_k».proof.Proof.InProjSpec
public import proofs.«01_k».proof.Proof.InProjIdealTiles

@[expose] public section

set_option maxRecDepth 8192

noncomputable section

namespace Cert.InProjIdeal.Pays

open Cert.InProjIdeal Cert.InProjIdeal.Gen Cert.InProjIdeal.Tiles Cert.InProjSpec Idealize.ShloMosaic

variable [Facts]

theorem pay1_apply (x : Vec Ideal S1x128x1024 .f32) (g : Vec Ideal S1x1024 .f32) (r : Fin 128) (k : Fin 1024) :
    k0_pay1 x g (ix2 r k) = rms (fun j => x (ix3 0 r j)) (fun j => g (ix2 0 j)) k := by
  pointwise [k0_pay1, rms]

theorem pay2_apply (h : Vec Ideal S128x1024 .bf16) (w : Vec Ideal S1024x1024 .bf16) (r : Fin 128) (n : Fin 1024) :
    k0_pay2 h w (ix2 r n) = gelu (dot (fun d => h (ix2 r d)) (fun d n => w (ix2 d n)) n) := by
  pointwise [k0_pay2, gelu, dot]

theorem pay5_apply (h : Vec Ideal S128x1024 .bf16) (w : Vec Ideal S1024x1024 .bf16) (r : Fin 128) (n : Fin 1024) :
    k0_pay5 h w (ix4 0 0 r n) = dot (fun d => h (ix2 r d)) (fun d n => w (ix2 d n)) n := by
  pointwise [k0_pay5, dot]

theorem pay6_apply (h : Vec Ideal S128x1024 .bf16) (w : Vec Ideal S1024x1024 .bf16) (r : Fin 128) (n : Fin 1024) :
    k0_pay6 h w (ix4 0 0 r n) = Ideal.logistic (dot (fun d => h (ix2 r d)) (fun d n => w (ix2 d n)) n) := by
  pointwise [k0_pay6, dot]

theorem pay7_apply (h : Vec Ideal S128x1024 .bf16) (w : Vec Ideal S1024x1024 .bf16) (g : Vec Ideal S1x1024 .f32) (r : Fin 128) (n : Fin 1024) :
    k0_pay7 h w g (ix2 r n) = rms (fun n => gelu (dot (fun d => h (ix2 r d)) (fun d n => w (ix2 d n)) n)) (fun j => g (ix2 0 j)) n := by
  pointwise [k0_pay7, rms, gelu, dot]

/-- The column `128 g + n`. -/
abbrev col (g : Fin 8) (n : Fin 128) : Fin 1024 := ⟨128 * g.val + n.val, by omega⟩

/-- The gated tile of group `g`, whatever the group: the eight groups differ in the columns they cut. -/
theorem groupPay_apply (v u : Vec Ideal S128x1024 .bf16) (x4 : Vec Ideal S8x128x128 .bf16) (x5 : Vec Ideal S128x8 .f32) (g : Fin 8) (t n : Fin 128) :
    groupPay v u x4 x5 g.val (ix4 0 0 t n)
      = mix (u (ix2 t (col g n))) (fun s => x4 (ix3 g t s)) (fun s => v (ix2 s (col g n))) (x5 (ix2 t g)) := by
  fin_cases g <;>
    pointwise [groupPay, k0_pay3, k0_pay4, k0_pay8, k0_pay9, k0_pay10, k0_pay11, k0_pay12, k0_pay13, k0_pay14, k0_pay15, k0_pay16, k0_pay17,
      wTile, bTile, mix, ← ix3_eq_valueIdx, ← ix2_eq_valueIdx, col]

/-- A row is its tile's row. -/
theorem row_eq (r : Fin 2048) : (⟨(128 * (r.val / 128) + r.val % 128) % 2048, Nat.mod_lt _ (by decide)⟩ : Fin 2048) = r :=
  Fin.ext (by simp only; omega)

theorem col_eq (n : Fin 1024) : col (grp n) (inGrp n) = n := Fin.ext (by simp only; omega)

theorem hnVec_apply (x : Vec Ideal S1x2048x1024 .f32) (g : Vec Ideal S1x1024 .f32) (r : Fin 2048) (k : Fin 1024) :
    hnVec x g (ix2 r k) = rms (fun j => x (ix3 0 r j)) (fun j => g (ix2 0 j)) k := by
  simp only [hnVec, tiled, ix2_0, ix2_1, ← ix2_eq_valueIdx, pay1_apply, xTile, ix3_1, ix3_2, ← ix3_eq_valueIdx, row_eq]

theorem guVec_apply (h : Vec Ideal S2048x1024 .bf16) (w : Vec Ideal S1024x1024 .bf16) (r : Fin 2048) (n : Fin 1024) :
    guVec h w (ix2 r n) = gelu (dot (fun d => h (ix2 r d)) (fun d n => w (ix2 d n)) n) := by
  simp only [guVec, tiled, ix2_0, ix2_1, ← ix2_eq_valueIdx, pay2_apply, hTile, row_eq]

theorem xmVec_apply (h : Vec Ideal S2048x1024 .bf16) (w : Vec Ideal S1024x1024 .bf16) (r : Fin 2048) (n : Fin 1024) :
    xmVec h w (ix4 0 0 r n) = dot (fun d => h (ix2 r d)) (fun d n => w (ix2 d n)) n := by
  simp only [xmVec, tiled4, ix4_2, ix4_3, ← ix4_eq_valueIdx, pay5_apply, hTile, ix2_0, ix2_1, ← ix2_eq_valueIdx, row_eq]

theorem gtVec_apply (h : Vec Ideal S2048x1024 .bf16) (w : Vec Ideal S1024x1024 .bf16) (r : Fin 2048) (n : Fin 1024) :
    gtVec h w (ix4 0 0 r n) = Ideal.logistic (dot (fun d => h (ix2 r d)) (fun d n => w (ix2 d n)) n) := by
  simp only [gtVec, tiled4, ix4_2, ix4_3, ← ix4_eq_valueIdx, pay6_apply, hTile, ix2_0, ix2_1, ← ix2_eq_valueIdx, row_eq]

theorem yaVec_apply (h gu : Vec Ideal S2048x1024 .bf16) (w : Vec Ideal S1024x1024 .bf16) (x3 : Vec Ideal S1x1024 .f32)
    (x4 : Vec Ideal S8x128x128 .bf16) (x5 : Vec Ideal S128x8 .f32) (r : Fin 2048) (n : Fin 1024) :
    yaVec h gu w x3 x4 x5 (ix4 0 0 r n)
      = mix (gu (ix2 r n)) (fun s => x4 (ix3 (grp n) (inTile r) s))
          (fun s => rms (fun n => gelu (dot (fun d => h (ix2 (tileRow r s) d)) (fun d n => w (ix2 d n)) n)) (fun j => x3 (ix2 0 j)) n)
          (x5 (ix2 (inTile r) (grp n))) := by
  have e := groupPay_apply (k0_pay7 (hTile h (r.val / 128)) w x3) (hTile gu (r.val / 128)) x4 x5 (grp n) (inTile r) (inGrp n)
  simp only [yaVec, tiled8, ix4_2, ix4_3, ← ix4_eq_valueIdx]
  refine e.trans ?_
  simp only [col_eq, pay7_apply, hTile, ix2_0, ix2_1, ← ix2_eq_valueIdx, row_eq]

end Cert.InProjIdeal.Pays

end
-- ==== Proof.InProjIdealValue.lean ====
/- What `cc0_in_proj` leaves in the output array, over the extended reals: the plain function of `Cert.InProjSpec` of the
   launch's arguments, element by element. -/
module

public import proofs.«01_k».proof.Proof.InProjIdealPays
public import proofs.«01_k».proof.Proof.InProjIdealLaunch
public import Idealize.ShloMosaic.Lib.Pipeline.Value
public import Idealize.ShloMosaic.Lib.Pipeline.ValueKit
public import Idealize.ShloMosaic.Lib.Claim

@[expose] public section

set_option maxRecDepth 8192

noncomputable section

namespace Cert.InProjIdeal.OutValue

open Cert.InProjIdeal Cert.InProjIdeal.Gen Cert.InProjIdeal.Tiles Cert.InProjIdeal.Launch Cert.InProjIdeal.Pays Cert.InProjSpec
open Idealize.ShloMosaic Idealize.ShloMosaic.TcCoe Idealize.SL.Sem

variable (m : (ℓ : Loc nD τ sig) → Buf (Elt Ideal) ℓ) (ρ : Dev nD → PrngReg)

/-- The launch's arguments at their indices. -/
def args (c : Dev nD) : In where
  x b r d := (m ((c : Thread nD τ).loc main_arg0) : Vec Ideal S2x2048x1024 .f32) (ix3 b r d)
  g d := (m ((c : Thread nD τ).loc main_arg1) : Vec Ideal S1024 .f32) (ix1 d)
  w d n := (m ((c : Thread nD τ).loc main_arg2) : Vec Ideal S1024x6144 .f32) (ix2 d n)
  gv n := (m ((c : Thread nD τ).loc main_arg3) : Vec Ideal S1024 .f32) (ix1 n)
  ws g t s := (m ((c : Thread nD τ).loc main_arg4) : Vec Ideal S8x128x128 .f32) (ix3 g t s)
  bs g t := (m ((c : Thread nD τ).loc main_arg5) : Vec Ideal S8x128 .f32) (ix2 g t)

/-! ## The arrays the call reads: the arguments, some of them cast, reshaped or transposed -/

theorem V_v0 (c : Dev nD) (d : Fin 1024) (n : Fin 6144) : (V m c main_v0 : Vec Ideal S1024x6144 .bf16) (ix2 d n) = (args m c).w d n := by
  entry_read
  pointwise [args]
theorem V_v1 (c : Dev nD) (g : Fin 8) (t s : Fin 128) : (V m c main_v1 : Vec Ideal S8x128x128 .bf16) (ix3 g t s) = (args m c).ws g t s := by
  entry_read
  pointwise [args]
theorem V_v2 (c : Dev nD) (d : Fin 1024) : (V m c main_v2 : Vec Ideal S1x1024 .f32) (ix2 0 d) = (args m c).g d := by
  entry_read
  pointwise [args]
theorem V_v3 (c : Dev nD) (d : Fin 1024) : (V m c main_v3 : Vec Ideal S1x1024 .f32) (ix2 0 d) = (args m c).gv d := by
  entry_read
  pointwise [args]
theorem V_v4 (c : Dev nD) (t : Fin 128) (g : Fin 8) : (V m c main_v4 : Vec Ideal S128x8 .f32) (ix2 t g) = (args m c).bs g t := by
  entry_read
  pointwise [args]

/-! ## The blocks -/

theorem ix_0 : ∀ t : Fin cfg0.N, win0_0.index t = ![t.val / 6, 0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, t.val % 6] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val % 6 - 1, t.val / 6, 0, 0] := (by decide +kernel : ∀ t : Fin grid0.N, _)

/-- The sequence a point works on, and the column band it reads. -/
abbrev seq (t : Fin cfg0.N) : Fin 2 := ⟨t.val / 6, by have := t.isLt; have e : cfg0.N = 12 := rfl; omega⟩
abbrev bandOf (t : Fin cfg0.N) : Fin 6 := ⟨t.val % 6, Nat.mod_lt _ (by decide)⟩

theorem blk_0 (c : Dev nD) (t : Fin cfg0.N) (r : Fin 2048) (d : Fin 1024) :
    (iblk m c 0 t : Vec Ideal S1x2048x1024 .f32) (ix3 0 r d) = (args m c).x (seq t) r d := by
  refine Eq.trans ?_ (congrFun (V_main_arg0 m c) (ix3 (seq t) r d))
  blk_ext [iblk, ix_0]
theorem blk_1 (c : Dev nD) (t : Fin cfg0.N) (d : Fin 1024) :
    (iblk m c 1 t : Vec Ideal S1x1024 .f32) (ix2 0 d) = (args m c).g d := by
  refine Eq.trans ?_ (V_v2 m c d)
  blk_ext [iblk, ix_1]
theorem blk_2 (c : Dev nD) (t : Fin cfg0.N) (d n : Fin 1024) :
    (iblk m c 2 t : Vec Ideal S1024x1024 .bf16) (ix2 d n) = (args m c).band (bandOf t) d n := by
  refine Eq.trans ?_ (V_v0 m c d _)
  blk_ext [iblk, ix_2]
theorem blk_3 (c : Dev nD) (t : Fin cfg0.N) (d : Fin 1024) :
    (iblk m c 3 t : Vec Ideal S1x1024 .f32) (ix2 0 d) = (args m c).gv d := by
  refine Eq.trans ?_ (V_v3 m c d)
  blk_ext [iblk, ix_3]
theorem blk_4 (c : Dev nD) (t : Fin cfg0.N) (g : Fin 8) (u s : Fin 128) :
    (iblk m c 4 t : Vec Ideal S8x128x128 .bf16) (ix3 g u s) = (args m c).ws g u s := by
  refine Eq.trans ?_ (V_v1 m c g u s)
  blk_ext [iblk, ix_4]
theorem blk_5 (c : Dev nD) (t : Fin cfg0.N) (u : Fin 128) (g : Fin 8) :
    (iblk m c 5 t : Vec Ideal S128x8 .f32) (ix2 u g) = (args m c).bs g u := by
  refine Eq.trans ?_ (V_v4 m c u g)
  blk_ext [iblk, ix_5]

/-! ## What a point leaves in the output block -/

theorem seq_row (t : Fin cfg0.N) : seq (rowPt t.val t.isLt) = seq t := Fin.ext (by show 6 * (t.val / 6) / 6 = t.val / 6; omega)
theorem band_row (t : Fin cfg0.N) : bandOf (rowPt t.val t.isLt) = 0 := Fin.ext (by show 6 * (t.val / 6) % 6 = 0; omega)

theorem hs_apply (c : Dev nD) (p : Fin cfg0.N) (r : Fin 2048) (d : Fin 1024) : hs m c p (ix2 r d) = (args m c).h (seq p) r d := by
  refine (hnVec_apply _ _ r d).trans ?_
  simp only [blk_0, blk_1]
  rfl

/-- A row of the first scratch buffer times a column of the weights' block. -/
theorem dot_apply (c : Dev nD) (t : Fin cfg0.N) (p : Fin cfg0.N) (hp : seq p = seq t) (r : Fin 2048) (n : Fin 1024) :
    dot (fun d => hs m c p (ix2 r d)) (fun d n => (iblk m c 2 t : Vec Ideal S1024x1024 .bf16) (ix2 d n)) n = (args m c).z (bandOf t) (seq t) r n := by
  simp only [hs_apply, blk_2, hp]
  rfl

theorem gs_apply (c : Dev nD) (p : Fin cfg0.N) (hb : bandOf p = 0) (r : Fin 2048) (n : Fin 1024) :
    gs m c p (ix2 r n) = gelu ((args m c).z 0 (seq p) r n) := by
  refine (guVec_apply _ _ r n).trans ?_
  rw [dot_apply m c p p rfl, hb]

/-- A point that is not its row's first leaves, in the output block, the result that its column band stands for. -/
theorem outs_apply (c : Dev nD) (t : Fin cfg0.N) (h : t.val % 6 ≠ 0) (r : Fin 2048) (n : Fin 1024) :
    outs m c t (ix4 0 0 r n) = (args m c).out ⟨t.val % 6 - 1, by omega⟩ (seq t) r n := by
  have hk : t.val % 6 = 1 ∨ t.val % 6 = 2 ∨ t.val % 6 = 3 ∨ t.val % 6 = 4 ∨ t.val % 6 = 5 := by omega
  have hd (r n) := dot_apply m c t _ (seq_row t) r n
  rcases hk with hk | hk | hk | hk | hk
  · rw [outs_B m c t hk]
    refine (yaVec_apply _ _ _ _ _ _ r n).trans ?_
    have hb : bandOf t = 1 := Fin.ext hk
    simp only [hd, gs_apply m c _ (band_row t), seq_row, blk_3, blk_4, blk_5, hb, hk]
    rfl
  · rw [outs_C m c t hk]
    have hb : bandOf t = 2 := Fin.ext hk
    refine (xmVec_apply _ _ r n).trans ?_
    simp only [hd, hb, hk]
    rfl
  · rw [outs_D m c t (by omega)]
    have hb : bandOf t = 3 := Fin.ext hk
    refine (gtVec_apply _ _ r n).trans ?_
    simp only [hd, hb, hk]
    rfl
  · rw [outs_D m c t (by omega)]
    have hb : bandOf t = 4 := Fin.ext hk
    refine (gtVec_apply _ _ r n).trans ?_
    simp only [hd, hb, hk]
    rfl
  · rw [outs_D m c t (by omega)]
    have hb : bandOf t = 5 := Fin.ext hk
    refine (gtVec_apply _ _ r n).trans ?_
    simp only [hd, hb, hk]
    rfl

/-! ## The output array -/

/-- The output array's contents. -/
def out (c : Dev nD) : Vec Ideal S5x2x2048x1024 .bf16 := fun i => (args m c).out (i 0) (i 1) (i 2) (i 3)

/-- A row's first point writes nothing back. -/
theorem flush_6 : ∀ t : Fin cfg0.N, (cfg0.win 6).flush t = true → t.val % 6 ≠ 0 := (by decide +kernel : ∀ t : Fin grid0.N, win0_6.flush t = true → t.val % 6 ≠ 0)

theorem final (c : Dev nD) : (dats m 0 c).arrAt 6 cfg0.N = out m c := by
  refine (dats m 0 c).arrAt_eq_of_covers 6 _ (by decide +kernel) fun t hf y => ?_
  have h := flush_6 t hf
  have hy : y = ix4 (n0 := 1) (n1 := 1) (n2 := 2048) (n3 := 1024) 0 0 (y 2) (y 3) :=
    (eq_ix4 (n0 := 1) (n1 := 1) (n2 := 2048) (n3 := 1024) y).trans (congrArg₂ (fun a b => ix4 a b (y 2) (y 3)) (Fin.fin_one_eq_zero _) (Fin.fin_one_eq_zero _))
  blk_simp
  rw [after6, hy]
  refine (outs_apply m c t h _ _).trans ?_
  unfold out
  congr 1 <;> apply Fin.ext <;> blk_simp [ix_6] <;> rfl

/-- Every execution of the call ends with the output array at that function of the arguments, the arguments as launched. -/
theorem run : θ_run defs (onTc (τ := τ) (main (F := Ideal))) ⟨m, fun _ => 0, ρ⟩ fun r => ∀ c : Dev nD,
    r.2.mem ((c : Thread nD τ).loc main_v5) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) := by
  have rest (r) (h : Pipeline.FramePost cfgs (dats m) 0 (V m) r) (c : Dev nD) := (h c).2
  refine (θ_run defs _ _).mono (fun r h c => ⟨((h c).1 6).trans (final m c),
    ((h c).1 0).trans (((dats m 0 c).arrAt_in 0 rfl _).trans ((A_eq m c 0).trans (V_main_arg0 m c))),
    (rest r h c main_arg1 (Pipeline.mem_restRefs_of main_arg1 (by decide) (by decide))).trans (V_main_arg1 m c),
    (rest r h c main_arg2 (Pipeline.mem_restRefs_of main_arg2 (by decide) (by decide))).trans (V_main_arg2 m c),
    (rest r h c main_arg3 (Pipeline.mem_restRefs_of main_arg3 (by decide) (by decide))).trans (V_main_arg3 m c),
    (rest r h c main_arg4 (Pipeline.mem_restRefs_of main_arg4 (by decide) (by decide))).trans (V_main_arg4 m c),
    (rest r h c main_arg5 (Pipeline.mem_restRefs_of main_arg5 (by decide) (by decide))).trans (V_main_arg5 m c)⟩) (run_main m ρ)

end Cert.InProjIdeal.OutValue

end
-- ==== Proof.InProjRefValue.lean ====
/- What the reference of the input projection computes, read at one element over the extended reals: the plain function of
   `Cert.InProjSpec` of its arguments. -/
module

public import proofs.«01_k».proof.Proof.InProjSpec
public import proofs.«01_k».proof.Proof.Gen.ReferenceIdeal.Run

@[expose] public section

set_option maxRecDepth 8192

noncomputable section

namespace Cert.ReferenceIdeal.RefValue

open Cert.ReferenceIdeal Cert.ReferenceIdeal.Gen Cert.InProjSpec Idealize.ShloMosaic Idealize.ShloMosaic.TcCoe

variable [Facts]

/-- A rank-3 array's rows normalised, with a gain. -/
def rmsV (x : FVec Ideal S2x2048x1024 .f32) (g : FVec Ideal S1024 .f32) : FVec Ideal S2x2048x1024 .f32 :=
  (mulf (mulf x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 g)))

/-- The gelu, element by element. -/
def geluV (z : FVec Ideal S2x2048x1024 .f32) : FVec Ideal S2x2048x1024 .f32 :=
  (mulf z (mulf (broadcastInDim S2x2048x1024 ![] bcast_S_S2x2048x1024 (constant S_ .f32 0x3F000000#32)) (addf (broadcastInDim S2x2048x1024 ![] bcast_S_S2x2048x1024 (constant S_ .f32 0x3F800000#32)) (Host.tanh (mulf (broadcastInDim S2x2048x1024 ![] bcast_S_S2x2048x1024 (constant S_ .f32 0x3F4C422A#32)) (addf z (mulf (broadcastInDim S2x2048x1024 ![] bcast_S_S2x2048x1024 (constant S_ .f32 0x3D372713#32)) (mulf (mulf z z) z))))))))

/-- The logistic function spelt out, element by element. -/
def sigV (z : FVec Ideal S2x2048x1024 .f32) : FVec Ideal S2x2048x1024 .f32 :=
  (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf z))))

/-- The gated spatial mixing: `u` the gating values, `v` the normalised values. -/
def mixV (u v : FVec Ideal S2x2048x1024 .f32) (ws : FVec Ideal S8x128x128 .f32) (bs : FVec Ideal S8x128 .f32) : FVec Ideal S2x2048x1024 .f32 :=
  (mulf u (shapeCast _ (addf (transpose S2x16x128x8x128 [1, 2, 4, 0, 3] (Host.dotGeneral dot_S2x16x128x8x128_S8x128x128_S8x2x16x128x128_2_2_014_1_3_0 none (shapeCast _ v shapeCasts_S2x2048x1024_S2x16x128x8x128) ws) transposes_S8x2x16x128x128_S2x16x128x8x128_1_2_4_0_3) (broadcastInDim S2x16x128x8x128 ![0, 1, 2, 3, 4] bcast_S1x1x128x8x1_S2x16x128x8x128_0_1_2_3_4 (broadcastInDim S1x1x128x8x1 ![2, 3] bcast_S128x8_S1x1x128x8x1_2_3 (transpose S128x8 [1, 0] bs transposes_S8x128_S128x8_1_0)))) shapeCasts_S2x16x128x8x128_S2x2048x1024))

/-- Five rank-3 arrays stacked. -/
def stackV (a b c d e : FVec Ideal S2x2048x1024 .f32) : FVec Ideal S5x2x2048x1024 .bf16 :=
  truncf .bf16 (concatenate S5x2x2048x1024 0 [⟨S1x2x2048x1024, broadcastInDim S1x2x2048x1024 ![1, 2, 3] bcast_S2x2048x1024_S1x2x2048x1024_1_2_3 a⟩,
    ⟨S1x2x2048x1024, broadcastInDim S1x2x2048x1024 ![1, 2, 3] bcast_S2x2048x1024_S1x2x2048x1024_1_2_3 b⟩,
    ⟨S1x2x2048x1024, broadcastInDim S1x2x2048x1024 ![1, 2, 3] bcast_S2x2048x1024_S1x2x2048x1024_1_2_3 c⟩,
    ⟨S1x2x2048x1024, broadcastInDim S1x2x2048x1024 ![1, 2, 3] bcast_S2x2048x1024_S1x2x2048x1024_1_2_3 d⟩,
    ⟨S1x2x2048x1024, broadcastInDim S1x2x2048x1024 ![1, 2, 3] bcast_S2x2048x1024_S1x2x2048x1024_1_2_3 e⟩]
    concatenates_S1x2x2048x1024_S1x2x2048x1024_S1x2x2048x1024_S1x2x2048x1024_S1x2x2048x1024_S5x2x2048x1024_d0) bitsLt_bf16_f32

/-- The normalised input times the weights. -/
def zV (x : FVec Ideal S2x2048x1024 .f32) (g : FVec Ideal S1024 .f32) (w : FVec Ideal S1024x6144 .f32) : FVec Ideal S2x2048x6144 .f32 :=
  Host.dotGeneral dot_S2x2048x1024_S1024x6144_S2x2048x6144_2_0_01_1_n_n none (rmsV x g) w

/-- The reference's result as the parts above. -/
def outV (x : FVec Ideal S2x2048x1024 .f32) (g : FVec Ideal S1024 .f32) (w : FVec Ideal S1024x6144 .f32) (gv : FVec Ideal S1024 .f32)
    (ws : FVec Ideal S8x128x128 .f32) (bs : FVec Ideal S8x128 .f32) : FVec Ideal S5x2x2048x1024 .bf16 :=
  stackV (mixV (geluV (extractStridedSlice S2x2048x1024 ![0, 0, 0] (zV x g w) slices_S2x2048x6144_S2x2048x1024_0_0_0))
      (rmsV (geluV (extractStridedSlice S2x2048x1024 ![0, 0, 1024] (zV x g w) slices_S2x2048x6144_S2x2048x1024_0_0_1024)) gv) ws bs)
    (extractStridedSlice S2x2048x1024 ![0, 0, 2048] (zV x g w) slices_S2x2048x6144_S2x2048x1024_0_0_2048)
    (sigV (extractStridedSlice S2x2048x1024 ![0, 0, 3072] (zV x g w) slices_S2x2048x6144_S2x2048x1024_0_0_3072))
    (sigV (extractStridedSlice S2x2048x1024 ![0, 0, 4096] (zV x g w) slices_S2x2048x6144_S2x2048x1024_0_0_4096))
    (sigV (extractStridedSlice S2x2048x1024 ![0, 0, 5120] (zV x g w) slices_S2x2048x6144_S2x2048x1024_0_0_5120))

theorem res_eq (m : (ℓ : Loc nD τ sig) → Buf (Elt Ideal) ℓ) (c : Dev nD) :
    Value.res_main_v92 m c = outV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  rfl

theorem rmsV_apply (x : FVec Ideal S2x2048x1024 .f32) (g : FVec Ideal S1024 .f32) (b : Fin 2) (r : Fin 2048) (k : Fin 1024) :
    rmsV x g (ix3 b r k) = rms (fun j => x (ix3 b r j)) (fun j => g (ix1 j)) k := by
  pointwise [rmsV, rms]

theorem geluV_apply (z : FVec Ideal S2x2048x1024 .f32) (b : Fin 2) (r : Fin 2048) (k : Fin 1024) :
    geluV z (ix3 b r k) = gelu (z (ix3 b r k)) := by
  pointwise [geluV, gelu]
  simp only [mul_comm (z (ix3 b r k) * z (ix3 b r k))]

theorem sigV_apply (z : FVec Ideal S2x2048x1024 .f32) (b : Fin 2) (r : Fin 2048) (k : Fin 1024) :
    sigV z (ix3 b r k) = Ideal.logistic (z (ix3 b r k)) := by
  pointwise [sigV]
  rfl

theorem mixV_apply (u v : FVec Ideal S2x2048x1024 .f32) (ws : FVec Ideal S8x128x128 .f32) (bs : FVec Ideal S8x128 .f32)
    (b : Fin 2) (r : Fin 2048) (n : Fin 1024) :
    mixV u v ws bs (ix3 b r n) = mix (u (ix3 b r n)) (fun s => ws (ix3 (grp n) (inTile r) s)) (fun s => v (ix3 b (tileRow r s) n))
      (bs (ix2 (grp n) (inTile r))) := by
  have e (s : Fin 128) : (⟨r.val / 128 * 128 + s.val, by omega⟩ : Fin 2048) = tileRow r s := Fin.ext (by simp only; omega)
  pointwise [mixV, mix, e]
  simp only [mul_comm (v _)]

theorem zV_apply (x : FVec Ideal S2x2048x1024 .f32) (g : FVec Ideal S1024 .f32) (w : FVec Ideal S1024x6144 .f32) (b : Fin 2) (r : Fin 2048) (n : Fin 6144) :
    zV x g w (ix3 b r n) = ∑ d, rms (fun j => x (ix3 b r j)) (fun j => g (ix1 j)) d * w (ix2 d n) := by
  pointwise [zV, rmsV_apply]

theorem stackV_apply (a : Fin 5 → FVec Ideal S2x2048x1024 .f32) (s : Fin 5) (b : Fin 2) (r : Fin 2048) (n : Fin 1024) :
    stackV (a 0) (a 1) (a 2) (a 3) (a 4) (ix4 s b r n) = a s (ix3 b r n) := by
  fin_cases s <;> pointwise [stackV]

/-- The arguments at their indices. -/
def args (x : FVec Ideal S2x2048x1024 .f32) (g : FVec Ideal S1024 .f32) (w : FVec Ideal S1024x6144 .f32) (gv : FVec Ideal S1024 .f32)
    (ws : FVec Ideal S8x128x128 .f32) (bs : FVec Ideal S8x128 .f32) : In where
  x b r d := x (ix3 b r d)
  g d := g (ix1 d)
  w d n := w (ix2 d n)
  gv n := gv (ix1 n)
  ws g t s := ws (ix3 g t s)
  bs g t := bs (ix2 g t)

/-- Each column band of the product. -/
theorem band_apply (x : FVec Ideal S2x2048x1024 .f32) (g : FVec Ideal S1024 .f32) (w : FVec Ideal S1024x6144 .f32) (gv : FVec Ideal S1024 .f32)
    (ws : FVec Ideal S8x128x128 .f32) (bs : FVec Ideal S8x128 .f32) (k : Fin 6) (h : S2x2048x6144.Slices ![0, 0, 1024 * k.val] S2x2048x1024)
    (b : Fin 2) (r : Fin 2048) (n : Fin 1024) :
    extractStridedSlice S2x2048x1024 ![0, 0, 1024 * k.val] (zV x g w) h (ix3 b r n) = (args x g w gv ws bs).z k b r n := by
  pointwise
  exact zV_apply x g w b r _

theorem outV_apply (x : FVec Ideal S2x2048x1024 .f32) (g : FVec Ideal S1024 .f32) (w : FVec Ideal S1024x6144 .f32) (gv : FVec Ideal S1024 .f32)
    (ws : FVec Ideal S8x128x128 .f32) (bs : FVec Ideal S8x128 .f32) (s : Fin 5) (b : Fin 2) (r : Fin 2048) (n : Fin 1024) :
    outV x g w gv ws bs (ix4 s b r n) = (args x g w gv ws bs).out s b r n := by
  have e0 b r n := band_apply x g w gv ws bs 0 slices_S2x2048x6144_S2x2048x1024_0_0_0 b r n
  have e1 b r n := band_apply x g w gv ws bs 1 slices_S2x2048x6144_S2x2048x1024_0_0_1024 b r n
  have e2 b r n := band_apply x g w gv ws bs 2 slices_S2x2048x6144_S2x2048x1024_0_0_2048 b r n
  have e3 b r n := band_apply x g w gv ws bs 3 slices_S2x2048x6144_S2x2048x1024_0_0_3072 b r n
  have e4 b r n := band_apply x g w gv ws bs 4 slices_S2x2048x6144_S2x2048x1024_0_0_4096 b r n
  have e5 b r n := band_apply x g w gv ws bs 5 slices_S2x2048x6144_S2x2048x1024_0_0_5120 b r n
  simp only [Fin.isValue, Fin.coe_ofNat_eq_mod, Nat.reduceMod, Nat.reduceMul, Nat.mul_zero, Nat.mul_one] at e0 e1 e2 e3 e4 e5
  refine (stackV_apply ![_, _, _, _, _] s b r n).trans ?_
  match s with
  | 0 => exact (mixV_apply _ _ ws bs b r n).trans (by simp only [geluV_apply, rmsV_apply, e0, e1]; rfl)
  | 1 => exact e2 b r n
  | 2 => exact (sigV_apply _ b r n).trans (congrArg _ (e3 b r n))
  | 3 => exact (sigV_apply _ b r n).trans (congrArg _ (e4 b r n))
  | 4 => exact (sigV_apply _ b r n).trans (congrArg _ (e5 b r n))

end Cert.ReferenceIdeal.RefValue

end
-- ==== Proof.InProjAlgebraic.lean ====
/- Over the extended reals the input projection's call and its reference leave the same array: both are the plain function
   of `Cert.InProjSpec` of the arguments. -/
module

public import proofs.«01_k».proof.Defs
public import proofs.«01_k».proof.Proof.InProjIdealValue
public import proofs.«01_k».proof.Proof.InProjRefValue
public import proofs.«01_k».proof.Proof.Gen.ReferenceIdeal

@[expose] public section

noncomputable section

namespace Cert.InProjAlgebraic

open Idealize.ShloMosaic Idealize.SL.Sem

/-- The reference's result, of arguments that agree with the call's. -/
theorem res_eq_out [Cert.ReferenceIdeal.Facts]
    (m : (ℓ : Loc Cert.InProjIdeal.nD Cert.InProjIdeal.τ Cert.InProjIdeal.sig) → Buf (Elt Ideal) ℓ)
    (m' : (ℓ : Loc Cert.ReferenceIdeal.nD Cert.ReferenceIdeal.τ Cert.ReferenceIdeal.sig) → Buf (Elt Ideal) ℓ) (c : Dev Cert.InProjIdeal.nD)
    (h0 : m' ((c.tc : Thread Cert.ReferenceIdeal.nD Cert.ReferenceIdeal.τ).loc Cert.ReferenceIdeal.main_arg0) = m ((c.tc : Thread Cert.InProjIdeal.nD Cert.InProjIdeal.τ).loc Cert.InProjIdeal.main_arg0))
    (h1 : m' ((c.tc : Thread Cert.ReferenceIdeal.nD Cert.ReferenceIdeal.τ).loc Cert.ReferenceIdeal.main_arg1) = m ((c.tc : Thread Cert.InProjIdeal.nD Cert.InProjIdeal.τ).loc Cert.InProjIdeal.main_arg1))
    (h2 : m' ((c.tc : Thread Cert.ReferenceIdeal.nD Cert.ReferenceIdeal.τ).loc Cert.ReferenceIdeal.main_arg2) = m ((c.tc : Thread Cert.InProjIdeal.nD Cert.InProjIdeal.τ).loc Cert.InProjIdeal.main_arg2))
    (h3 : m' ((c.tc : Thread Cert.ReferenceIdeal.nD Cert.ReferenceIdeal.τ).loc Cert.ReferenceIdeal.main_arg3) = m ((c.tc : Thread Cert.InProjIdeal.nD Cert.InProjIdeal.τ).loc Cert.InProjIdeal.main_arg3))
    (h4 : m' ((c.tc : Thread Cert.ReferenceIdeal.nD Cert.ReferenceIdeal.τ).loc Cert.ReferenceIdeal.main_arg4) = m ((c.tc : Thread Cert.InProjIdeal.nD Cert.InProjIdeal.τ).loc Cert.InProjIdeal.main_arg4))
    (h5 : m' ((c.tc : Thread Cert.ReferenceIdeal.nD Cert.ReferenceIdeal.τ).loc Cert.ReferenceIdeal.main_arg5) = m ((c.tc : Thread Cert.InProjIdeal.nD Cert.InProjIdeal.τ).loc Cert.InProjIdeal.main_arg5)) :
    Cert.ReferenceIdeal.Value.res_main_v92 m' c = Cert.InProjIdeal.OutValue.out m c := by
  rw [Cert.ReferenceIdeal.RefValue.res_eq, h0, h1, h2, h3, h4, h5]
  funext i
  rw [eq_ix4 (n0 := 5) (n1 := 2) (n2 := 2048) (n3 := 1024) i]
  exact Cert.ReferenceIdeal.RefValue.outV_apply _ _ _ _ _ _ _ _ _ _

theorem algebraic [Cert.InProjIdeal.Facts] [Cert.ReferenceIdeal.Facts] : Cert.algebraic_InProjIdeal_ReferenceIdeal :=
  fun m ρ m' ρ' _ hag => ⟨fun c => Cert.InProjIdeal.OutValue.out m c, Cert.InProjIdeal.OutValue.run m ρ,
    (θ_run Cert.ReferenceIdeal.defs _ _).mono
      (fun _ h c => ⟨(h c).1.trans (res_eq_out m m' c (hag c).1 (hag c).2.1 (hag c).2.2.1 (hag c).2.2.2.1 (hag c).2.2.2.2.1 (hag c).2.2.2.2.2), (h c).2⟩)
      (Cert.ReferenceIdeal.Value.run m' ρ')⟩

end Cert.InProjAlgebraic

end
-- ==== Proof.MergeRouteBody.lean ====
/- `MergeRoute`'s body, run from its inputs' blocks and any contents of its other buffers: the inputs stay as they are, and the
   output of the merge holds the vector `k0_pay192` of the blocks. -/
module

public import proofs.«01_k».proof.Proof.Gen.MergeRoute.Loops
public import proofs.«01_k».proof.Proof.Gen.MergeRoute.Frame
public import Idealize.ShloMosaic.Lib.VecWindow

@[expose] public section

-- membership in a rectangle of production extents (`View.cover_of_tiled`): the elaborator's structural look
-- recurses once per coordinate of the long axes
set_option maxRecDepth 16384

noncomputable section

namespace Cert.MergeRoute.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The body's buffers, at the contents `f…`. -/
abbrev heldAll (c : Dev nD) (arg1 : Memref sig .tc .vmem S256x1024 .f32) (arg2 : Memref sig .tc .vmem S1x256x1024 .bf16) (arg3 : Memref sig .tc .vmem S256x1024 .bf16) (arg4 : Memref sig .tc .vmem S1x256x1024 .bf16) (arg5 : Memref sig .tc .vmem S1x256x1024 .bf16) (arg6 : Memref sig .tc .vmem S1024x1024 .bf16) (arg7 : Memref sig .tc .vmem S1024x1024 .bf16) (arg8 : Memref sig .tc .vmem S1024x1024 .bf16) (arg9 : Memref sig .tc .vmem S1x1024 .f32) (arg10 : Memref sig .tc .vmem S1024x2048 .bf16) (arg11 : Memref sig .tc .vmem S16x128x128 .bf16) (arg12 : Memref sig .tc .vmem S256x1024 .f32) (arg13 : Memref sig .tc .vmem S256x512 .i32) (arg14 : Memref sig .tc .vmem S256x128 .i32) (arg15 : Memref sig .tc .vmem S256x128 .f32) (arg16 : Memref sig .tc .vmem S256x2048 .bf16) (arg17 : Memref sig .tc .vmem S16x16x256 .f32) (arg18 : Memref sig .tc .vmem S16x16x256 .f32) (arg19 : Memref sig .tc .vmem S16x256 .f32) (arg20 : Memref sig .tc .vmem S16x256 .f32) (arg21 : Memref sig .tc .vmem S128x256 .f32) (arg22 : Memref sig .tc .vmem S128x256 .f32) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22))

set_option maxHeartbeats 8000000 in
/-- The body's triple: the inputs are kept, and the merge's output holds its vector, whatever the other buffers held. -/
theorem body (c : Dev nD) (i : grid0.Coords) (arg1 : Memref sig .tc .vmem S256x1024 .f32) (harg1 : arg1.IsWhole) (arg2 : Memref sig .tc .vmem S1x256x1024 .bf16) (harg2 : arg2.IsWhole) (arg3 : Memref sig .tc .vmem S256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x2048 .bf16) (harg10 : arg10.IsWhole) (arg11 : Memref sig .tc .vmem S16x128x128 .bf16) (harg11 : arg11.IsWhole) (arg12 : Memref sig .tc .vmem S256x1024 .f32) (harg12 : arg12.IsWhole) (arg13 : Memref sig .tc .vmem S256x512 .i32) (harg13 : arg13.IsWhole) (arg14 : Memref sig .tc .vmem S256x128 .i32) (harg14 : arg14.IsWhole) (arg15 : Memref sig .tc .vmem S256x128 .f32) (harg15 : arg15.IsWhole) (arg16 : Memref sig .tc .vmem S256x2048 .bf16) (harg16 : arg16.IsWhole) (arg17 : Memref sig .tc .vmem S16x16x256 .f32) (harg17 : arg17.IsWhole) (arg18 : Memref sig .tc .vmem S16x16x256 .f32) (harg18 : arg18.IsWhole) (arg19 : Memref sig .tc .vmem S16x256 .f32) (harg19 : arg19.IsWhole) (arg20 : Memref sig .tc .vmem S16x256 .f32) (harg20 : arg20.IsWhole) (arg21 : Memref sig .tc .vmem S128x256 .f32) (harg21 : arg21.IsWhole) (arg22 : Memref sig .tc .vmem S128x256 .f32) (harg22 : arg22.IsWhole) (x1 : Vec F S256x1024 .f32) (x2 : Vec F S1x256x1024 .bf16) (x3 : Vec F S256x1024 .bf16) (x4 : Vec F S1x256x1024 .bf16) (x5 : Vec F S1x256x1024 .bf16) (x6 : Vec F S1024x1024 .bf16) (x7 : Vec F S1024x1024 .bf16) (x8 : Vec F S1024x1024 .bf16) (x9 : Vec F S1x1024 .f32) (x10 : Vec F S1024x2048 .bf16) (x11 : Vec F S16x128x128 .bf16) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) :
    ∃ (C12 : BufTy.Contents (Elt F) arg12.view.ty) (C13 : BufTy.Contents (Elt F) arg13.view.ty) (C14 : BufTy.Contents (Elt F) arg14.view.ty) (C15 : BufTy.Contents (Elt F) arg15.view.ty) (C16 : BufTy.Contents (Elt F) arg16.view.ty) (C17 : BufTy.Contents (Elt F) arg17.view.ty) (C18 : BufTy.Contents (Elt F) arg18.view.ty) (C19 : BufTy.Contents (Elt F) arg19.view.ty) (C20 : BufTy.Contents (Elt F) arg20.view.ty) (C21 : BufTy.Contents (Elt F) arg21.view.ty) (C22 : BufTy.Contents (Elt F) arg22.view.ty), arg12.view.read (Elt F) C12 = k0_pay192 (F := F) x4 x2 x6 x5 x3 x7 x1 x8 ∧ ∀ E : Set ℕ,
      heldAll (F := F) c arg1 arg2 arg3 arg4 arg5 arg6 arg7 arg8 arg9 arg10 arg11 arg12 arg13 arg14 arg15 arg16 arg17 arg18 arg19 arg20 arg21 arg22 (harg1.unread x1) (harg2.unread x2) (harg3.unread x3) (harg4.unread x4) (harg5.unread x5) (harg6.unread x6) (harg7.unread x7) (harg8.unread x8) (harg9.unread x9) (harg10.unread x10) (harg11.unread x11) f12 f13 f14 f15 f16 f17 f18 f19 f20 f21 f22
      ⊢ wp frame (wpE (defs₀ (F := F)) Variants.none (c : Thread nD τ) none) E (cc0_merge_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => heldAll (F := F) c arg1 arg2 arg3 arg4 arg5 arg6 arg7 arg8 arg9 arg10 arg11 arg12 arg13 arg14 arg15 arg16 arg17 arg18 arg19 arg20 arg21 arg22 (harg1.unread x1) (harg2.unread x2) (harg3.unread x3) (harg4.unread x4) (harg5.unread x5) (harg6.unread x6) (harg7.unread x7) (harg8.unread x8) (harg9.unread x9) (harg10.unread x10) (harg11.unread x11) C12 C13 C14 C15 C16 C17 C18 C19 C20 C21 C22) := by
  refine ⟨?_, ?_, ?_, ?_, ?_, ?_, ?_, ?_, ?_, ?_, ?_, ?_, fun E => ?run⟩
  case run =>
    simp only [cc0_merge_route_eq_skeleton]; unfold cc0_merge_route_skel
    iintro ⟨H1, H2, H3, H4, H5, H6, H7, H8, H9, H10, H11, H12, H13, H14, H15, H16, H17, H18, H19, H20, H21, H22⟩
    sl_exec
    sl_step
    sl_close
  unfold body.sl.H12_1
  refine (View.read_writes_full _ _ _ _ _).trans ?_
  repeat rw [View.readAt_full, Memref.IsWhole.read_unread]

end Cert.MergeRoute.Gen

end
-- ==== Proof.MergeRouteIdealBody.lean ====
/- `MergeRouteIdeal`'s body, run from its inputs' blocks and any contents of its other buffers: the inputs stay as they are, and the
   output of the merge holds the vector `k0_pay191` of the blocks. -/
module

public import proofs.«01_k».proof.Proof.Gen.MergeRouteIdeal.Loops
public import proofs.«01_k».proof.Proof.Gen.MergeRouteIdeal.Frame
public import Idealize.ShloMosaic.Lib.VecWindow

@[expose] public section

-- membership in a rectangle of production extents (`View.cover_of_tiled`): the elaborator's structural look
-- recurses once per coordinate of the long axes
set_option maxRecDepth 16384

noncomputable section

namespace Cert.MergeRouteIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's buffers, at the contents `f…`. -/
abbrev heldAll (c : Dev nD) (arg1 : Memref sig .tc .vmem S256x1024 .f32) (arg2 : Memref sig .tc .vmem S1x256x1024 .bf16) (arg3 : Memref sig .tc .vmem S256x1024 .bf16) (arg4 : Memref sig .tc .vmem S1x256x1024 .bf16) (arg5 : Memref sig .tc .vmem S1x256x1024 .bf16) (arg6 : Memref sig .tc .vmem S1024x1024 .bf16) (arg7 : Memref sig .tc .vmem S1024x1024 .bf16) (arg8 : Memref sig .tc .vmem S1024x1024 .bf16) (arg9 : Memref sig .tc .vmem S1x1024 .f32) (arg10 : Memref sig .tc .vmem S1024x2048 .bf16) (arg11 : Memref sig .tc .vmem S16x128x128 .bf16) (arg12 : Memref sig .tc .vmem S256x1024 .f32) (arg13 : Memref sig .tc .vmem S256x2x512 .bf16) (arg14 : Memref sig .tc .vmem S256x128 .i32) (arg15 : Memref sig .tc .vmem S256x128 .f32) (arg16 : Memref sig .tc .vmem S256x2048 .bf16) (arg17 : Memref sig .tc .vmem S16x16x256 .f32) (arg18 : Memref sig .tc .vmem S16x16x256 .f32) (arg19 : Memref sig .tc .vmem S16x256 .f32) (arg20 : Memref sig .tc .vmem S16x256 .f32) (arg21 : Memref sig .tc .vmem S128x256 .f32) (arg22 : Memref sig .tc .vmem S128x256 .f32) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22))

set_option maxHeartbeats 8000000 in
/-- The body's triple: the inputs are kept, and the merge's output holds its vector, whatever the other buffers held. -/
theorem body (c : Dev nD) (i : grid0.Coords) (arg1 : Memref sig .tc .vmem S256x1024 .f32) (harg1 : arg1.IsWhole) (arg2 : Memref sig .tc .vmem S1x256x1024 .bf16) (harg2 : arg2.IsWhole) (arg3 : Memref sig .tc .vmem S256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x2048 .bf16) (harg10 : arg10.IsWhole) (arg11 : Memref sig .tc .vmem S16x128x128 .bf16) (harg11 : arg11.IsWhole) (arg12 : Memref sig .tc .vmem S256x1024 .f32) (harg12 : arg12.IsWhole) (arg13 : Memref sig .tc .vmem S256x2x512 .bf16) (harg13 : arg13.IsWhole) (arg14 : Memref sig .tc .vmem S256x128 .i32) (harg14 : arg14.IsWhole) (arg15 : Memref sig .tc .vmem S256x128 .f32) (harg15 : arg15.IsWhole) (arg16 : Memref sig .tc .vmem S256x2048 .bf16) (harg16 : arg16.IsWhole) (arg17 : Memref sig .tc .vmem S16x16x256 .f32) (harg17 : arg17.IsWhole) (arg18 : Memref sig .tc .vmem S16x16x256 .f32) (harg18 : arg18.IsWhole) (arg19 : Memref sig .tc .vmem S16x256 .f32) (harg19 : arg19.IsWhole) (arg20 : Memref sig .tc .vmem S16x256 .f32) (harg20 : arg20.IsWhole) (arg21 : Memref sig .tc .vmem S128x256 .f32) (harg21 : arg21.IsWhole) (arg22 : Memref sig .tc .vmem S128x256 .f32) (harg22 : arg22.IsWhole) (x1 : Vec F S256x1024 .f32) (x2 : Vec F S1x256x1024 .bf16) (x3 : Vec F S256x1024 .bf16) (x4 : Vec F S1x256x1024 .bf16) (x5 : Vec F S1x256x1024 .bf16) (x6 : Vec F S1024x1024 .bf16) (x7 : Vec F S1024x1024 .bf16) (x8 : Vec F S1024x1024 .bf16) (x9 : Vec F S1x1024 .f32) (x10 : Vec F S1024x2048 .bf16) (x11 : Vec F S16x128x128 .bf16) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) :
    ∃ (C12 : BufTy.Contents (Elt F) arg12.view.ty) (C13 : BufTy.Contents (Elt F) arg13.view.ty) (C14 : BufTy.Contents (Elt F) arg14.view.ty) (C15 : BufTy.Contents (Elt F) arg15.view.ty) (C16 : BufTy.Contents (Elt F) arg16.view.ty) (C17 : BufTy.Contents (Elt F) arg17.view.ty) (C18 : BufTy.Contents (Elt F) arg18.view.ty) (C19 : BufTy.Contents (Elt F) arg19.view.ty) (C20 : BufTy.Contents (Elt F) arg20.view.ty) (C21 : BufTy.Contents (Elt F) arg21.view.ty) (C22 : BufTy.Contents (Elt F) arg22.view.ty), arg12.view.read (Elt F) C12 = k0_pay191 (F := F) x4 x2 x6 x5 x3 x7 x1 x8 ∧ ∀ E : Set ℕ,
      heldAll (F := F) c arg1 arg2 arg3 arg4 arg5 arg6 arg7 arg8 arg9 arg10 arg11 arg12 arg13 arg14 arg15 arg16 arg17 arg18 arg19 arg20 arg21 arg22 (harg1.unread x1) (harg2.unread x2) (harg3.unread x3) (harg4.unread x4) (harg5.unread x5) (harg6.unread x6) (harg7.unread x7) (harg8.unread x8) (harg9.unread x9) (harg10.unread x10) (harg11.unread x11) f12 f13 f14 f15 f16 f17 f18 f19 f20 f21 f22
      ⊢ wp frame (wpE (defs₀ (F := F)) Variants.none (c : Thread nD τ) none) E (cc0_merge_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => heldAll (F := F) c arg1 arg2 arg3 arg4 arg5 arg6 arg7 arg8 arg9 arg10 arg11 arg12 arg13 arg14 arg15 arg16 arg17 arg18 arg19 arg20 arg21 arg22 (harg1.unread x1) (harg2.unread x2) (harg3.unread x3) (harg4.unread x4) (harg5.unread x5) (harg6.unread x6) (harg7.unread x7) (harg8.unread x8) (harg9.unread x9) (harg10.unread x10) (harg11.unread x11) C12 C13 C14 C15 C16 C17 C18 C19 C20 C21 C22) := by
  refine ⟨?_, ?_, ?_, ?_, ?_, ?_, ?_, ?_, ?_, ?_, ?_, ?_, fun E => ?run⟩
  case run =>
    simp only [cc0_merge_route_eq_skeleton]; unfold cc0_merge_route_skel
    iintro ⟨H1, H2, H3, H4, H5, H6, H7, H8, H9, H10, H11, H12, H13, H14, H15, H16, H17, H18, H19, H20, H21, H22⟩
    sl_exec
    sl_step
    sl_close
  unfold body.sl.H12_1
  refine (View.read_writes_full _ _ _ _ _).trans ?_
  repeat rw [View.readAt_full, Memref.IsWhole.read_unread]

end Cert.MergeRouteIdeal.Gen

end
-- ==== Proof.MergeRouteIdealLaunch.lean ====
/- The launch of `MergeRouteIdeal`'s one region (relational proof data): the merge's output is held to its vector of the input blocks, the
   other three outputs to nothing. -/
module

public import proofs.«01_k».proof.Proof.MergeRouteIdealBody
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.MergeRouteIdeal.Launch

open Cert.MergeRouteIdeal Cert.MergeRouteIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

/-- The buffer of window 0 at point `t`. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
/-- The buffer of window 1 at point `t`. -/
abbrev ms0_1 (t : Fin cfg0.N) : Memref sig .tc .vmem S1x256x1024 .bf16 := win0_1.stage (cfg0.slots t 1)
abbrev hs0_1 (t : Fin cfg0.N) : (ms0_1 t).IsWhole := hstage0_1 ((cfg0.slots t 1).cast nbuf0_1)
/-- The buffer of window 2 at point `t`. -/
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
/-- The buffer of window 3 at point `t`. -/
abbrev ms0_3 (t : Fin cfg0.N) : Memref sig .tc .vmem S1x256x1024 .bf16 := win0_3.stage (cfg0.slots t 3)
abbrev hs0_3 (t : Fin cfg0.N) : (ms0_3 t).IsWhole := hstage0_3 ((cfg0.slots t 3).cast nbuf0_3)
/-- The buffer of window 4 at point `t`. -/
abbrev ms0_4 (t : Fin cfg0.N) : Memref sig .tc .vmem S1x256x1024 .bf16 := win0_4.stage (cfg0.slots t 4)
abbrev hs0_4 (t : Fin cfg0.N) : (ms0_4 t).IsWhole := hstage0_4 ((cfg0.slots t 4).cast nbuf0_4)
/-- The buffer of window 5 at point `t`. -/
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
/-- The buffer of window 6 at point `t`. -/
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
/-- The buffer of window 7 at point `t`. -/
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
/-- The buffer of window 8 at point `t`. -/
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
/-- The buffer of window 9 at point `t`. -/
abbrev ms0_9 (t : Fin cfg0.N) : Memref sig .tc .vmem S1024x2048 .bf16 := win0_9.stage (cfg0.slots t 9)
abbrev hs0_9 (t : Fin cfg0.N) : (ms0_9 t).IsWhole := hstage0_9 ((cfg0.slots t 9).cast nbuf0_9)
/-- The buffer of window 10 at point `t`. -/
abbrev ms0_10 (t : Fin cfg0.N) : Memref sig .tc .vmem S16x128x128 .bf16 := win0_10.stage (cfg0.slots t 10)
abbrev hs0_10 (t : Fin cfg0.N) : (ms0_10 t).IsWhole := hstage0_10 ((cfg0.slots t 10).cast nbuf0_10)
/-- The buffer of window 11 at point `t`. -/
abbrev ms0_11 (t : Fin cfg0.N) : Memref sig .tc .vmem S256x1024 .f32 := win0_11.stage (cfg0.slots t 11)
abbrev hs0_11 (t : Fin cfg0.N) : (ms0_11 t).IsWhole := hstage0_11 ((cfg0.slots t 11).cast nbuf0_11)
/-- The buffer of window 12 at point `t`. -/
abbrev ms0_12 (t : Fin cfg0.N) : Memref sig .tc .vmem S256x2x512 .bf16 := win0_12.stage (cfg0.slots t 12)
abbrev hs0_12 (t : Fin cfg0.N) : (ms0_12 t).IsWhole := hstage0_12 ((cfg0.slots t 12).cast nbuf0_12)
/-- The buffer of window 13 at point `t`. -/
abbrev ms0_13 (t : Fin cfg0.N) : Memref sig .tc .vmem S256x128 .i32 := win0_13.stage (cfg0.slots t 13)
abbrev hs0_13 (t : Fin cfg0.N) : (ms0_13 t).IsWhole := hstage0_13 ((cfg0.slots t 13).cast nbuf0_13)
/-- The buffer of window 14 at point `t`. -/
abbrev ms0_14 (t : Fin cfg0.N) : Memref sig .tc .vmem S256x128 .f32 := win0_14.stage (cfg0.slots t 14)
abbrev hs0_14 (t : Fin cfg0.N) : (ms0_14 t).IsWhole := hstage0_14 ((cfg0.slots t 14).cast nbuf0_14)
/-- Scratch buffer 0. -/
abbrev scM0_0 : Memref sig .tc .vmem S256x2048 .bf16 := Memref.whole cc0_scratch0
/-- Scratch buffer 1. -/
abbrev scM0_1 : Memref sig .tc .vmem S16x16x256 .f32 := Memref.whole cc0_scratch1
/-- Scratch buffer 2. -/
abbrev scM0_2 : Memref sig .tc .vmem S16x16x256 .f32 := Memref.whole cc0_scratch2
/-- Scratch buffer 3. -/
abbrev scM0_3 : Memref sig .tc .vmem S16x256 .f32 := Memref.whole cc0_scratch3
/-- Scratch buffer 4. -/
abbrev scM0_4 : Memref sig .tc .vmem S16x256 .f32 := Memref.whole cc0_scratch4
/-- Scratch buffer 5. -/
abbrev scM0_5 : Memref sig .tc .vmem S128x256 .f32 := Memref.whole cc0_scratch5
/-- Scratch buffer 6. -/
abbrev scM0_6 : Memref sig .tc .vmem S128x256 .f32 := Memref.whole cc0_scratch6

/-- The class's invariant, the scratch buffers one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## The proof data -/

/-- The proof data on core `c`: the arrays as the region finds them; each input's buffer at its block after the body; the outputs'
    unnamed; the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The outputs are the windows whose contents are held to a predicate. -/
def fgt0 : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true

/-- The merge at point `t`: the residual rows plus the projected sum of the two gated branches. -/
def merged (c : Dev nD) (t : Fin cfg0.N) : Vec F S256x1024 .f32 :=
  k0_pay191 (F := F) (iblk m c 3 t) (iblk m c 1 t) (iblk m c 5 t) (iblk m c 4 t) (iblk m c 2 t) (iblk m c 6 t) (iblk m c 0 t) (iblk m c 7 t)

/-- What the body leaves in each output: in the first, the merge. -/
def rel (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun _ _ => True
  | ⟨7, _⟩ => fun _ _ => True
  | ⟨8, _⟩ => fun _ _ => True
  | ⟨9, _⟩ => fun _ _ => True
  | ⟨10, _⟩ => fun _ _ => True
  | ⟨11, _⟩ => fun t X => X = merged m c t
  | ⟨12, _⟩ => fun _ _ => True
  | ⟨13, _⟩ => fun _ _ => True
  | ⟨14, _⟩ => fun _ _ => True

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜((dats m 0 c).toRRel fgt0 (rel m c)).Finds 11 t Y⌝ ∗ owns (c : Thread nD τ) (ms0_11 t) fullShare Y)
    ∗ (∃ Y, ⌜((dats m 0 c).toRRel fgt0 (rel m c)).Finds 12 t Y⌝ ∗ owns (c : Thread nD τ) (ms0_12 t) fullShare Y)
    ∗ (∃ Y, ⌜((dats m 0 c).toRRel fgt0 (rel m c)).Finds 13 t Y⌝ ∗ owns (c : Thread nD τ) (ms0_13 t) fullShare Y)
    ∗ (∃ Y, ⌜((dats m 0 c).toRRel fgt0 (rel m c)).Finds 14 t Y⌝ ∗ owns (c : Thread nD τ) (ms0_14 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ X, ⌜X = merged m c t⌝ ∗ owns (c : Thread nD τ) (ms0_11 t) fullShare X)
    ∗ (∃ X, ⌜True⌝ ∗ owns (c : Thread nD τ) (ms0_12 t) fullShare X)
    ∗ (∃ X, ⌜True⌝ ∗ owns (c : Thread nD τ) (ms0_13 t) fullShare X)
    ∗ (∃ X, ⌜True⌝ ∗ owns (c : Thread nD τ) (ms0_14 t) fullShare X))

set_option maxHeartbeats 4000000 in
/-- The body at any point: the inputs' buffers hold their blocks, the scratch buffers come out of the invariant at some contents and
    return to it at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold owns
  iintro ⟨⟨⟨⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩⟩, Hg⟩, Ho, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%Y12, -, %f12, -, H12⟩, ⟨%Y13, -, %f13, -, H13⟩, ⟨%Y14, -, %f14, -, H14⟩, ⟨%Y15, -, %f15, -, H15⟩⟩
  obtain rfl := (hs0_0 t).eq_unread hf1; obtain rfl := (hs0_1 t).eq_unread hf2; obtain rfl := (hs0_2 t).eq_unread hf3; obtain rfl := (hs0_3 t).eq_unread hf4; obtain rfl := (hs0_4 t).eq_unread hf5; obtain rfl := (hs0_5 t).eq_unread hf6; obtain rfl := (hs0_6 t).eq_unread hf7; obtain rfl := (hs0_7 t).eq_unread hf8; obtain rfl := (hs0_8 t).eq_unread hf9; obtain rfl := (hs0_9 t).eq_unread hf10; obtain rfl := (hs0_10 t).eq_unread hf11
  obtain ⟨C12, C13, C14, C15, C16, C17, C18, C19, C20, C21, C22, hm, h⟩ := body (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) f12 f13 f14 f15 f16 f17 f18 f19 f20 f21 f22
  iapply wp_wand_r
  isplitl [H1 H2 H3 H4 H5 H6 H7 H8 H9 H10 H11 H12 H13 H14 H15 H16 H17 H18 H19 H20 H21 H22]
  · iapply (h Set.univ)
    sl_close
  iintro %r ⟨H1, H2, H3, H4, H5, H6, H7, H8, H9, H10, H11, H12, H13, H14, H15, H16, H17, H18, H19, H20, H21, H22⟩
  isplitl [H16 H17 H18 H19 H20 H21 H22 Hg]
  · isplitl [H16 H17 H18 H19 H20 H21 H22]
    · isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      isplitl [H21]
      · iexists _, _; isplitr; swap; · iexact H21
        ipureintro; rfl
      iexists _, _; isplitr; swap; · iexact H22
      ipureintro; rfl
    iexact Hg
  isplitl [Ho]; · iexact Ho
  isplitl [H1]
  · iexists _; isplitr; · ipureintro; exact (hs0_0 t).read_unread _
    iexact H1
  isplitl [H2]
  · iexists _; isplitr; · ipureintro; exact (hs0_1 t).read_unread _
    iexact H2
  isplitl [H3]
  · iexists _; isplitr; · ipureintro; exact (hs0_2 t).read_unread _
    iexact H3
  isplitl [H4]
  · iexists _; isplitr; · ipureintro; exact (hs0_3 t).read_unread _
    iexact H4
  isplitl [H5]
  · iexists _; isplitr; · ipureintro; exact (hs0_4 t).read_unread _
    iexact H5
  isplitl [H6]
  · iexists _; isplitr; · ipureintro; exact (hs0_5 t).read_unread _
    iexact H6
  isplitl [H7]
  · iexists _; isplitr; · ipureintro; exact (hs0_6 t).read_unread _
    iexact H7
  isplitl [H8]
  · iexists _; isplitr; · ipureintro; exact (hs0_7 t).read_unread _
    iexact H8
  isplitl [H9]
  · iexists _; isplitr; · ipureintro; exact (hs0_8 t).read_unread _
    iexact H9
  isplitl [H10]
  · iexists _; isplitr; · ipureintro; exact (hs0_9 t).read_unread _
    iexact H10
  isplitl [H11]
  · iexists _; isplitr; · ipureintro; exact (hs0_10 t).read_unread _
    iexact H11
  isplitl [H12]
  · iexists (ms0_11 t).view.read (Elt F) C12; isplitr; · ipureintro; exact hm
    iexists C12; isplitr; · ipureintro; rfl
    iexact H12
  isplitl [H13]
  · iexists (ms0_12 t).view.read (Elt F) C13; isplitr; · ipureintro; exact trivial
    iexists C13; isplitr; · ipureintro; rfl
    iexact H13
  isplitl [H14]
  · iexists (ms0_13 t).view.read (Elt F) C14; isplitr; · ipureintro; exact trivial
    iexists C14; isplitr; · ipureintro; rfl
    iexact H14
  iexists (ms0_14 t).view.read (Elt F) C15; isplitr; · ipureintro; exact trivial
  iexists C15; isplitr; · ipureintro; rfl
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligationRel (dats (F := F) m 0 c) (defs₀ (F := F)) Variants.none () Set.univ fgt0 (rel m c) := fun t => by
  rw [bigSep_W0, bigSep_W0, defs₀_row]
  exact triple_restated (sound_body m c t) rfl .rfl fun _ => .rfl

/-! ## The run and the frame -/

set_option backward.isDefEq.respectTransparency.types false in
/-- Every execution from zero counters ends, with the arrays at what the relational proof data allow and every counter at zero. -/
theorem run_main : θ_run defs (onTc (τ := τ) (main (F := F))) (s₀ m ρ)
    (fun r => Pipeline.RDat.FramePost (cfgs 0) (fun c => (dats m 0 c).toRRel fgt0 (rel m c)) (V m) r ∧ r.2.sem = fun _ => 0) :=
  Pipeline.RDat.θ_run_frame_track_shared (Q' := _) cfgs (0 : Fin 1) launch₀0 defs₀ Variants.none
    (fun c => (dats m 0 c).toRRel fgt0 (rel m c)) m ρ main
    (hbody := fun c => (body_obligation m c).toRRel) (hq := fun _ _ _ => rfl)
    (howed := fun _ _ => rfl) (V := V m) (hmain := hmain m Variants.none) (hA := A_eq m) (hin := fun _ => .rfl) (hout := fun _ => .rfl)

/-- The arguments end as they were launched. -/
theorem kept {r : PUnit × MemSt nD τ sig (Elt F)}
    (h : Pipeline.RDat.FramePost (cfgs 0) (fun c => (dats (F := F) m 0 c).toRRel fgt0 (rel m c)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨
    (h.arr_in c 0 rfl).trans (V_main_arg0 m c),
    ((h c).2 main_arg1 (Pipeline.mem_restRefs_of main_arg1 (by decide) (by decide))).trans (V_main_arg1 m c),
    (h.arr_in c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The frame: the arguments end as they were launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => kept m h.1 c, h.2⟩) (run_main m ρ)

end Cert.MergeRouteIdeal.Launch

end
-- ==== Proof.MergeSpec.lean ====
/- What the layer's merge of its two branches computes, written once over the extended reals with no program in sight: each
   branch's row times that branch's weights, gated, the sum of the two times the output weights, added to the input. -/
module

public import Idealize.ShloMosaic.Lib.Pointwise

@[expose] public section

noncomputable section

namespace Cert.MergeSpec

open Idealize.ShloMosaic

/-- A row times a column `n` of a square of weights. -/
def dot (h : Fin 1024 → EReal) (w : Fin 1024 → Fin 1024 → EReal) (n : Fin 1024) : EReal := ∑ d, h d * w d n

/-- One row's merge: `x` the input row, `ya`, `yb` the branches' rows, `ga`, `gb` their gates, `wa`, `wb` the branches' weights,
    `wo` the output weights. -/
def merge (x ya yb ga gb : Fin 1024 → EReal) (wa wb wo : Fin 1024 → Fin 1024 → EReal) (n : Fin 1024) : EReal :=
  x n + dot (fun d => ga d * dot ya wa d + gb d * dot yb wb d) wo n

/-- The sequence that token `r` lies in. -/
abbrev seqOf (r : Fin 4096) : Fin 2 := ⟨r.val / 2048, by omega⟩
/-- The token's place in its sequence. -/
abbrev posOf (r : Fin 4096) : Fin 2048 := ⟨r.val % 2048, Nat.mod_lt _ (by decide)⟩

/-- The arguments: the input, the five stacked arrays of the input projection (the first the first branch, the last two the
    gates), the second branch, and the three squares of weights. -/
structure In where
  x : Fin 4096 → Fin 1024 → EReal
  z : Fin 5 → Fin 2 → Fin 2048 → Fin 1024 → EReal
  yb : Fin 4096 → Fin 1024 → EReal
  wa : Fin 1024 → Fin 1024 → EReal
  wb : Fin 1024 → Fin 1024 → EReal
  wo : Fin 1024 → Fin 1024 → EReal

namespace In

variable (A : In)

/-- Array `k` of the stack at token `r`. -/
def band (k : Fin 5) (r : Fin 4096) : Fin 1024 → EReal := A.z k (seqOf r) (posOf r)

/-- The merged row of token `r`. -/
def out (r : Fin 4096) (n : Fin 1024) : EReal :=
  merge (A.x r) (A.band 0 r) (A.yb r) (A.band 3 r) (A.band 4 r) A.wa A.wb A.wo n

end In

end Cert.MergeSpec

end
-- ==== Proof.MergeRouteIdealValue.lean ====
/- What `cc0_merge_route` leaves in its first output array, over the extended reals: the plain function of `Cert.MergeSpec`
   of the launch's arguments, element by element. -/
module

public import proofs.«01_k».proof.Proof.MergeSpec
public import proofs.«01_k».proof.Proof.MergeRouteIdealLaunch
public import Idealize.ShloMosaic.Lib.Pipeline.ArrRel
public import Idealize.ShloMosaic.Lib.Pipeline.Value
public import Idealize.ShloMosaic.Lib.Pipeline.ValueKit
public import Idealize.ShloMosaic.Lib.Claim

@[expose] public section

set_option maxRecDepth 8192

noncomputable section

namespace Cert.MergeRouteIdeal.OutValue

open Cert.MergeRouteIdeal Cert.MergeRouteIdeal.Gen Cert.MergeRouteIdeal.Launch Cert.MergeSpec
open Idealize.ShloMosaic Idealize.ShloMosaic.TcCoe Idealize.SL.Sem

variable (m : (ℓ : Loc nD τ sig) → Buf (Elt Ideal) ℓ) (ρ : Dev nD → PrngReg)

/-- The launch's arguments at their indices. -/
def args (c : Dev nD) : In where
  x r d := (m ((c : Thread nD τ).loc main_arg0) : Vec Ideal S4096x1024 .f32) (ix2 r d)
  z k b r d := (m ((c : Thread nD τ).loc main_arg1) : Vec Ideal S5x2x2048x1024 .bf16) (ix4 k b r d)
  yb r d := (m ((c : Thread nD τ).loc main_arg2) : Vec Ideal S4096x1024 .bf16) (ix2 r d)
  wa d n := (m ((c : Thread nD τ).loc main_arg3) : Vec Ideal S1024x1024 .f32) (ix2 d n)
  wb d n := (m ((c : Thread nD τ).loc main_arg4) : Vec Ideal S1024x1024 .f32) (ix2 d n)
  wo d n := (m ((c : Thread nD τ).loc main_arg5) : Vec Ideal S1024x1024 .f32) (ix2 d n)

/-- The merged tile at one element: the row's merge. -/
theorem pay_apply (ga ya gb : Vec Ideal S1x256x1024 .bf16) (yb : Vec Ideal S256x1024 .bf16) (x : Vec Ideal S256x1024 .f32)
    (wa wb wo : Vec Ideal S1024x1024 .bf16) (r : Fin 256) (n : Fin 1024) :
    k0_pay191 ga ya wa gb yb wb x wo (ix2 r n)
      = merge (fun d => x (ix2 r d)) (fun d => ya (ix3 0 r d)) (fun d => yb (ix2 r d)) (fun d => ga (ix3 0 r d)) (fun d => gb (ix3 0 r d))
          (fun d n => wa (ix2 d n)) (fun d n => wb (ix2 d n)) (fun d n => wo (ix2 d n)) n := by
  pointwise [k0_pay191, merge, dot]

/-! ## The arrays the call reads: the arguments, some of them cast or reshaped -/

theorem V_v0 (c : Dev nD) (d n : Fin 1024) : (V m c main_v0 : Vec Ideal S1024x1024 .bf16) (ix2 d n) = (args m c).wa d n := by
  entry_read
  pointwise [args]
theorem V_v1 (c : Dev nD) (d n : Fin 1024) : (V m c main_v1 : Vec Ideal S1024x1024 .bf16) (ix2 d n) = (args m c).wb d n := by
  entry_read
  pointwise [args]
theorem V_v2 (c : Dev nD) (d n : Fin 1024) : (V m c main_v2 : Vec Ideal S1024x1024 .bf16) (ix2 d n) = (args m c).wo d n := by
  entry_read
  pointwise [args]
theorem V_v7 (c : Dev nD) (k : Fin 5) (r : Fin 4096) (d : Fin 1024) :
    (V m c main_v7 : Vec Ideal S5x4096x1024 .bf16) (ix3 k r d) = (args m c).band k r d := by
  entry_read
  pointwise [args, In.band]

/-! ## The blocks -/

theorem ix_0 : ∀ t : Fin cfg0.N, win0_0.index t = ![t.val, 0] := (by decide +kernel : ∀ t : Fin grid0.N, _)
theorem ix_1 : ∀ t : Fin cfg0.N, win0_1.index t = ![0, t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![3, t.val, 0] := (by decide +kernel : ∀ t : Fin grid0.N, _)
theorem ix_4 : ∀ t : Fin cfg0.N, win0_4.index t = ![4, t.val, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_11 : ∀ t : Fin cfg0.N, win0_11.index t = ![t.val, 0] := (by decide +kernel : ∀ t : Fin grid0.N, _)

/-- The token that row `r` of point `t`'s blocks is. -/
abbrev tok (t : Fin cfg0.N) (r : Fin 256) : Fin 4096 := ⟨t.val * 256 + r.val, by have := t.isLt; have e : cfg0.N = 16 := rfl; omega⟩

theorem blk_0 (c : Dev nD) (t : Fin cfg0.N) (r : Fin 256) (d : Fin 1024) :
    (iblk m c 0 t : Vec Ideal S256x1024 .f32) (ix2 r d) = (args m c).x (tok t r) d := by
  refine Eq.trans ?_ (congrFun (V_main_arg0 m c) (ix2 (tok t r) d))
  blk_ext [iblk, ix_0]
theorem blk_1 (c : Dev nD) (t : Fin cfg0.N) (r : Fin 256) (d : Fin 1024) :
    (iblk m c 1 t : Vec Ideal S1x256x1024 .bf16) (ix3 0 r d) = (args m c).band 0 (tok t r) d := by
  refine Eq.trans ?_ (V_v7 m c 0 (tok t r) d)
  blk_ext [iblk, ix_1]
theorem blk_2 (c : Dev nD) (t : Fin cfg0.N) (r : Fin 256) (d : Fin 1024) :
    (iblk m c 2 t : Vec Ideal S256x1024 .bf16) (ix2 r d) = (args m c).yb (tok t r) d := by
  refine Eq.trans ?_ (congrFun (V_main_arg2 m c) (ix2 (tok t r) d))
  blk_ext [iblk, ix_2]
theorem blk_3 (c : Dev nD) (t : Fin cfg0.N) (r : Fin 256) (d : Fin 1024) :
    (iblk m c 3 t : Vec Ideal S1x256x1024 .bf16) (ix3 0 r d) = (args m c).band 3 (tok t r) d := by
  refine Eq.trans ?_ (V_v7 m c 3 (tok t r) d)
  blk_ext [iblk, ix_3]
theorem blk_4 (c : Dev nD) (t : Fin cfg0.N) (r : Fin 256) (d : Fin 1024) :
    (iblk m c 4 t : Vec Ideal S1x256x1024 .bf16) (ix3 0 r d) = (args m c).band 4 (tok t r) d := by
  refine Eq.trans ?_ (V_v7 m c 4 (tok t r) d)
  blk_ext [iblk, ix_4]
theorem blk_5 (c : Dev nD) (t : Fin cfg0.N) (d n : Fin 1024) :
    (iblk m c 5 t : Vec Ideal S1024x1024 .bf16) (ix2 d n) = (args m c).wa d n := by
  refine Eq.trans ?_ (V_v0 m c d n)
  blk_ext [iblk, ix_5]
theorem blk_6 (c : Dev nD) (t : Fin cfg0.N) (d n : Fin 1024) :
    (iblk m c 6 t : Vec Ideal S1024x1024 .bf16) (ix2 d n) = (args m c).wb d n := by
  refine Eq.trans ?_ (V_v1 m c d n)
  blk_ext [iblk, ix_6]
theorem blk_7 (c : Dev nD) (t : Fin cfg0.N) (d n : Fin 1024) :
    (iblk m c 7 t : Vec Ideal S1024x1024 .bf16) (ix2 d n) = (args m c).wo d n := by
  refine Eq.trans ?_ (V_v2 m c d n)
  blk_ext [iblk, ix_7]

/-- What a point leaves in the first output block: its tokens' merged rows. -/
theorem merged_apply (c : Dev nD) (t : Fin cfg0.N) (r : Fin 256) (n : Fin 1024) :
    merged m c t (ix2 r n) = (args m c).out (tok t r) n := by
  refine (pay_apply _ _ _ _ _ _ _ _ r n).trans ?_
  simp only [blk_0, blk_1, blk_2, blk_3, blk_4, blk_5, blk_6, blk_7]
  rfl

/-! ## The first output array -/

/-- The first output array's contents. -/
def out (c : Dev nD) : Vec Ideal S4096x1024 .f32 := fun i => (args m c).out (i 0) (i 1)

/-- Of any proof data by which the body leaves the merged tiles in the first output's blocks, the first output array ends at
    the merged rows. -/
theorem final (c : Dev nD) (D : Pipeline.Dat τ (Elt Ideal) Unit ℕ (UR sig nD τ) ℕ cfg0 c) (h : ∀ t, D.after 11 t = merged m c t) :
    D.arrAt 11 cfg0.N = out m c := by
  refine D.arrAt_eq_of_covers 11 _ (by decide +kernel) fun t hf y => ?_
  have hy : y = ix2 (n0 := 256) (n1 := 1024) (y 0) (y 1) := eq_ix2 (n0 := 256) (n1 := 1024) y
  blk_simp
  rw [h, hy]
  refine (merged_apply m c t _ _).trans ?_
  refine congrArg₂ (args m c).out (Fin.ext ?_) (Fin.ext ?_) <;> blk_simp [ix_11]

/-- Every execution of the call ends with the first output array at that function of the arguments, the arguments as
    launched. -/
theorem run : θ_run defs (onTc (τ := τ) (main (F := Ideal))) ⟨m, fun _ => 0, ρ⟩ fun r => ∀ c : Dev nD,
    r.2.mem ((c : Thread nD τ).loc main_v8_0) = out m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  refine (θ_run defs _ _).mono (fun r h c => ⟨?_, kept m h.1 c⟩) (run_main m ρ)
  obtain ⟨after, hL, hA⟩ := h.1.exists_exact c
  exact (hA 11).trans (final m c _ fun t => (dats m 0 c).toRRel_leaves (fgt := fgt0) (Rl := rel m c) rfl (hL 11 t (flush0_11 t)))

end Cert.MergeRouteIdeal.OutValue

end
-- ==== Proof.MergeRefValue.lean ====
/- What the reference of the merge computes, read at one element over the extended reals: the plain function of
   `Cert.MergeSpec` of its arguments. -/
module

public import proofs.«01_k».proof.Proof.MergeSpec
public import proofs.«01_k».proof.Proof.Gen.MergeReferenceIdeal.Run

@[expose] public section

set_option maxRecDepth 8192

noncomputable section

namespace Cert.MergeReferenceIdeal.RefValue

open Cert.MergeReferenceIdeal Cert.MergeReferenceIdeal.Gen Cert.MergeSpec Idealize.ShloMosaic Idealize.ShloMosaic.TcCoe

variable [Facts]

/-- One array of the stack, its tokens in one axis. -/
def bandV (k : Fin 3 → Nat) (h : S5x4096x1024.Slices k S1x4096x1024) (z : FVec Ideal S5x2x2048x1024 .bf16) : FVec Ideal S4096x1024 .f32 :=
  shapeCast _ (extractStridedSlice S1x4096x1024 k (shapeCast _ (extf .f32 z bitsLt_bf16_f32) shapeCasts_S5x2x2048x1024_S5x4096x1024) h)
    shapeCasts_S1x4096x1024_S4096x1024

/-- Rows times a square of weights. -/
def dotV (h : FVec Ideal S4096x1024 .f32) (w : FVec Ideal S1024x1024 .f32) : FVec Ideal S4096x1024 .f32 :=
  Host.dotGeneral dot_S4096x1024_S1024x1024_S4096x1024_1_0_0_1_n_n none h w

/-- The reference's result. -/
def outV (x : FVec Ideal S4096x1024 .f32) (z : FVec Ideal S5x2x2048x1024 .bf16) (yb : FVec Ideal S4096x1024 .bf16)
    (wa wb wo : FVec Ideal S1024x1024 .f32) : FVec Ideal S4096x1024 .f32 :=
  addf x (dotV (addf
    (mulf (bandV ![3, 0, 0] slices_S5x4096x1024_S1x4096x1024_3_0_0 z) (dotV (bandV ![0, 0, 0] slices_S5x4096x1024_S1x4096x1024_0_0_0 z) wa))
    (mulf (bandV ![4, 0, 0] slices_S5x4096x1024_S1x4096x1024_4_0_0 z) (dotV (extf .f32 yb bitsLt_bf16_f32) wb))) wo)

/-- The arguments at their indices. -/
def args (x : FVec Ideal S4096x1024 .f32) (z : FVec Ideal S5x2x2048x1024 .bf16) (yb : FVec Ideal S4096x1024 .bf16)
    (wa wb wo : FVec Ideal S1024x1024 .f32) : In where
  x r d := x (ix2 r d)
  z k b r d := z (ix4 k b r d)
  yb r d := yb (ix2 r d)
  wa d n := wa (ix2 d n)
  wb d n := wb (ix2 d n)
  wo d n := wo (ix2 d n)

theorem bandV_apply (k : Fin 5) (h : S5x4096x1024.Slices ![k.val, 0, 0] S1x4096x1024) (z : FVec Ideal S5x2x2048x1024 .bf16)
    (r : Fin 4096) (n : Fin 1024) : bandV ![k.val, 0, 0] h z (ix2 r n) = z (ix4 k (seqOf r) (posOf r) n) := by
  fin_cases k <;> pointwise [bandV]

theorem dotV_apply (h : FVec Ideal S4096x1024 .f32) (w : FVec Ideal S1024x1024 .f32) (r : Fin 4096) (n : Fin 1024) :
    dotV h w (ix2 r n) = dot (fun d => h (ix2 r d)) (fun d n => w (ix2 d n)) n := by
  pointwise [dotV, dot]

theorem outV_apply (x : FVec Ideal S4096x1024 .f32) (z : FVec Ideal S5x2x2048x1024 .bf16) (yb : FVec Ideal S4096x1024 .bf16)
    (wa wb wo : FVec Ideal S1024x1024 .f32) (r : Fin 4096) (n : Fin 1024) :
    outV x z yb wa wb wo (ix2 r n) = (args x z yb wa wb wo).out r n := by
  have e0 n := bandV_apply 0 slices_S5x4096x1024_S1x4096x1024_0_0_0 z r n
  have e3 n := bandV_apply 3 slices_S5x4096x1024_S1x4096x1024_3_0_0 z r n
  have e4 n := bandV_apply 4 slices_S5x4096x1024_S1x4096x1024_4_0_0 z r n
  simp only [Fin.isValue, Fin.coe_ofNat_eq_mod, Nat.reduceMod] at e0 e3 e4
  show x (ix2 r n) + dotV _ wo (ix2 r n) = _
  refine congrArg (x (ix2 r n) + ·) ((dotV_apply _ wo r n).trans (congrArg (fun h => dot h _ n) (funext fun d => ?_)))
  show bandV _ _ z (ix2 r d) * dotV _ wa (ix2 r d) + bandV _ _ z (ix2 r d) * dotV _ wb (ix2 r d) = _
  simp only [dotV_apply, e0, e3, e4]
  rfl

end Cert.MergeReferenceIdeal.RefValue

end
-- ==== Proof.MergeAlgebraic.lean ====
/- Over the extended reals the merge's call and its reference leave the same array: both are the plain function of
   `Cert.MergeSpec` of the arguments. -/
module

public import proofs.«01_k».proof.Defs
public import proofs.«01_k».proof.Proof.MergeRouteIdealValue
public import proofs.«01_k».proof.Proof.MergeRefValue
public import proofs.«01_k».proof.Proof.Gen.MergeReferenceIdeal

@[expose] public section

noncomputable section

namespace Cert.MergeAlgebraic

open Idealize.ShloMosaic Idealize.SL.Sem

/-- The reference's result, of arguments that agree with the call's. -/
theorem outV_eq_out [Cert.MergeReferenceIdeal.Facts]
    (m : (ℓ : Loc Cert.MergeRouteIdeal.nD Cert.MergeRouteIdeal.τ Cert.MergeRouteIdeal.sig) → Buf (Elt Ideal) ℓ)
    (m' : (ℓ : Loc Cert.MergeReferenceIdeal.nD Cert.MergeReferenceIdeal.τ Cert.MergeReferenceIdeal.sig) → Buf (Elt Ideal) ℓ) (c : Dev Cert.MergeRouteIdeal.nD)
    (h0 : m' ((c.tc : Thread Cert.MergeReferenceIdeal.nD Cert.MergeReferenceIdeal.τ).loc Cert.MergeReferenceIdeal.main_arg0) = m ((c.tc : Thread Cert.MergeRouteIdeal.nD Cert.MergeRouteIdeal.τ).loc Cert.MergeRouteIdeal.main_arg0))
    (h1 : m' ((c.tc : Thread Cert.MergeReferenceIdeal.nD Cert.MergeReferenceIdeal.τ).loc Cert.MergeReferenceIdeal.main_arg1) = m ((c.tc : Thread Cert.MergeRouteIdeal.nD Cert.MergeRouteIdeal.τ).loc Cert.MergeRouteIdeal.main_arg1))
    (h2 : m' ((c.tc : Thread Cert.MergeReferenceIdeal.nD Cert.MergeReferenceIdeal.τ).loc Cert.MergeReferenceIdeal.main_arg2) = m ((c.tc : Thread Cert.MergeRouteIdeal.nD Cert.MergeRouteIdeal.τ).loc Cert.MergeRouteIdeal.main_arg2))
    (h3 : m' ((c.tc : Thread Cert.MergeReferenceIdeal.nD Cert.MergeReferenceIdeal.τ).loc Cert.MergeReferenceIdeal.main_arg3) = m ((c.tc : Thread Cert.MergeRouteIdeal.nD Cert.MergeRouteIdeal.τ).loc Cert.MergeRouteIdeal.main_arg3))
    (h4 : m' ((c.tc : Thread Cert.MergeReferenceIdeal.nD Cert.MergeReferenceIdeal.τ).loc Cert.MergeReferenceIdeal.main_arg4) = m ((c.tc : Thread Cert.MergeRouteIdeal.nD Cert.MergeRouteIdeal.τ).loc Cert.MergeRouteIdeal.main_arg4))
    (h5 : m' ((c.tc : Thread Cert.MergeReferenceIdeal.nD Cert.MergeReferenceIdeal.τ).loc Cert.MergeReferenceIdeal.main_arg5) = m ((c.tc : Thread Cert.MergeRouteIdeal.nD Cert.MergeRouteIdeal.τ).loc Cert.MergeRouteIdeal.main_arg5)) :
    Cert.MergeReferenceIdeal.RefValue.outV (m' ((c.tc : Thread Cert.MergeReferenceIdeal.nD Cert.MergeReferenceIdeal.τ).loc Cert.MergeReferenceIdeal.main_arg0))
      (m' ((c.tc : Thread Cert.MergeReferenceIdeal.nD Cert.MergeReferenceIdeal.τ).loc Cert.MergeReferenceIdeal.main_arg1))
      (m' ((c.tc : Thread Cert.MergeReferenceIdeal.nD Cert.MergeReferenceIdeal.τ).loc Cert.MergeReferenceIdeal.main_arg2))
      (m' ((c.tc : Thread Cert.MergeReferenceIdeal.nD Cert.MergeReferenceIdeal.τ).loc Cert.MergeReferenceIdeal.main_arg3))
      (m' ((c.tc : Thread Cert.MergeReferenceIdeal.nD Cert.MergeReferenceIdeal.τ).loc Cert.MergeReferenceIdeal.main_arg4))
      (m' ((c.tc : Thread Cert.MergeReferenceIdeal.nD Cert.MergeReferenceIdeal.τ).loc Cert.MergeReferenceIdeal.main_arg5))
      = Cert.MergeRouteIdeal.OutValue.out m c := by
  rw [h0, h1, h2, h3, h4, h5]
  funext i
  rw [eq_ix2 (n0 := 4096) (n1 := 1024) i]
  exact Cert.MergeReferenceIdeal.RefValue.outV_apply _ _ _ _ _ _ _ _

theorem algebraic [Cert.MergeRouteIdeal.Facts] [Cert.MergeReferenceIdeal.Facts] : Cert.algebraic_MergeRouteIdeal_MergeReferenceIdeal :=
  fun m ρ m' ρ' _ hag => ⟨fun c => Cert.MergeRouteIdeal.OutValue.out m c, Cert.MergeRouteIdeal.OutValue.run m ρ,
    (θ_run Cert.MergeReferenceIdeal.defs _ _).mono
      (fun _ h c => ⟨(h c).1.trans (outV_eq_out m m' c (hag c).1 (hag c).2.1 (hag c).2.2.1 (hag c).2.2.2.1 (hag c).2.2.2.2.1 (hag c).2.2.2.2.2.1), (h c).2⟩)
      (Cert.MergeReferenceIdeal.Value.run m' ρ')⟩

end Cert.MergeAlgebraic

end
-- ==== Proof.FinalNormValue.lean ====
/- What `cc0_final_norm` leaves in its output array, over the extended reals: each row of the argument divided by its root
   mean square, times the gain. -/
module

public import proofs.«01_k».proof.Proof.InProjSpec
public import proofs.«01_k».proof.Proof.Gen.FinalNormIdeal.Frame
public import Idealize.ShloMosaic.Lib.Pipeline.Value
public import Idealize.ShloMosaic.Lib.Pipeline.ValueKit
public import Idealize.ShloMosaic.Lib.Claim

@[expose] public section

set_option maxRecDepth 8192

noncomputable section

namespace Cert.FinalNormIdeal.OutValue

open Cert.FinalNormIdeal Cert.FinalNormIdeal.Gen Cert.InProjSpec
open Idealize.ShloMosaic Idealize.ShloMosaic.TcCoe Idealize.SL.Sem

variable (m : (ℓ : Loc nD τ sig) → Buf (Elt Ideal) ℓ) (ρ : Dev nD → PrngReg)

/-- The rows' argument and the gain at their indices. -/
def xs (c : Dev nD) (r : Fin 4096) (d : Fin 1024) : EReal := (m ((c : Thread nD τ).loc main_arg0) : Vec Ideal S4096x1024 .f32) (ix2 r d)
def gain (c : Dev nD) (d : Fin 1024) : EReal := (m ((c : Thread nD τ).loc main_arg1) : Vec Ideal S1024 .f32) (ix1 d)

theorem pay_apply (x : Vec Ideal S512x1024 .f32) (g : Vec Ideal S1x1024 .f32) (r : Fin 512) (k : Fin 1024) :
    k0_pay1 x g (ix2 r k) = rms (fun j => x (ix2 r j)) (fun j => g (ix2 0 j)) k := by
  pointwise [k0_pay1, rms]

/-- The gain as the call reads it: the argument with a leading axis. -/
theorem V_v0 (c : Dev nD) (d : Fin 1024) : (V m c main_v0 : Vec Ideal S1x1024 .f32) (ix2 0 d) = gain m c d := by
  entry_read
  pointwise [gain]

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

/-- The row that row `r` of point `t`'s block is. -/
abbrev rowOf (t : Fin cfg0.N) (r : Fin 512) : Fin 4096 := ⟨t.val * 512 + r.val, by have := t.isLt; have e : cfg0.N = 8 := rfl; omega⟩

theorem blk_0 (c : Dev nD) (t : Fin cfg0.N) (r : Fin 512) (d : Fin 1024) :
    (iblk m c 0 t : Vec Ideal S512x1024 .f32) (ix2 r d) = xs m c (rowOf t r) d := by
  refine Eq.trans ?_ (congrFun (V_main_arg0 m c) (ix2 (rowOf t r) d))
  blk_ext [iblk, ix_0]
theorem blk_1 (c : Dev nD) (t : Fin cfg0.N) (d : Fin 1024) :
    (iblk m c 1 t : Vec Ideal S1x1024 .f32) (ix2 0 d) = gain m c d := by
  refine Eq.trans ?_ (V_v0 m c d)
  blk_ext [iblk, ix_1]

/-- The output array's contents. -/
def out (c : Dev nD) : Vec Ideal S4096x1024 .f32 := fun i => rms (xs m c (i 0)) (gain m c) (i 1)

/-- What a point leaves in the output block: its rows normalised. -/
theorem pay_blk (c : Dev nD) (t : Fin cfg0.N) (r : Fin 512) (k : Fin 1024) :
    k0_pay1 (F := Ideal) (iblk m c 0 t) (iblk m c 1 t) (ix2 r k) = rms (xs m c (rowOf t r)) (gain m c) k := by
  refine (pay_apply _ _ r k).trans ?_
  simp only [blk_0, blk_1]

theorem final (c : Dev nD) : (dats m 0 c).arrAt 2 cfg0.N = out m c := by
  refine (dats m 0 c).arrAt_eq_of_covers 2 _ (by decide +kernel) fun t hf y => ?_
  have hy : y = ix2 (n0 := 512) (n1 := 1024) (y 0) (y 1) := eq_ix2 (n0 := 512) (n1 := 1024) y
  blk_simp
  rw [after0_2, hy]
  frame_out
  refine (pay_blk m c t _ _).trans ?_
  refine congrArg₂ (fun r k => rms (xs m c r) (gain m c) k) (Fin.ext ?_) (Fin.ext ?_) <;> blk_simp [ix_2]

/-- Every execution of the call ends with the output array at those rows, the arguments as launched. -/
theorem run : θ_run defs (onTc (τ := τ) (main (F := Ideal))) ⟨m, fun _ => 0, ρ⟩ fun r => ∀ c : Dev nD,
    r.2.mem ((c : Thread nD τ).loc main_v1) = out m c
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r h c => ⟨((h c).1 2).trans (final m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c)⟩) (run_main m ρ)

end Cert.FinalNormIdeal.OutValue

end
-- ==== Proof.FinalRefValue.lean ====
/- What the reference of the final norm computes, read at one element over the extended reals. -/
module

public import proofs.«01_k».proof.Proof.InProjSpec
public import proofs.«01_k».proof.Proof.Gen.FinalReferenceIdeal.Run

@[expose] public section

set_option maxRecDepth 8192

noncomputable section

namespace Cert.FinalReferenceIdeal.RefValue

open Cert.FinalReferenceIdeal Cert.FinalReferenceIdeal.Gen Cert.InProjSpec Idealize.ShloMosaic Idealize.ShloMosaic.TcCoe

variable [Facts]

/-- The mean of each row's squares. -/
def meanV (x : FVec Ideal S4096x1024 .f32) : FVec Ideal S4096x1 .f32 :=
  Host.divf (broadcastInDim S4096x1 ![0] bcast_S4096_S4096x1_0
    (Host.reduceAdd (mulf x x) (constant S_ .f32 0x00000000#32) reducesTo_S4096x1024_S4096_d1 h_S_))
    (broadcastInDim S4096x1 ![] bcast_S_S4096x1 (constant S_ .f32 0x44800000#32))

/-- The reference's result. -/
def outV (x : FVec Ideal S4096x1024 .f32) (g : FVec Ideal S1024 .f32) : FVec Ideal S4096x1024 .f32 :=
  mulf (mulf x (broadcastInDim S4096x1024 ![0, 1] bcast_S4096x1_S4096x1024_0_1
      (Host.rsqrt (addf (meanV x) (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))

theorem outV_apply (x : FVec Ideal S4096x1024 .f32) (g : FVec Ideal S1024 .f32) (r : Fin 4096) (k : Fin 1024) :
    outV x g (ix2 r k) = rms (fun j => x (ix2 r j)) (fun j => g (ix1 j)) k := by
  pointwise [outV, meanV, rms]

end Cert.FinalReferenceIdeal.RefValue

end
-- ==== Proof.FinalAlgebraic.lean ====
/- Over the extended reals the final norm's call and its reference leave the same array: both divide each row by its root mean
   square and multiply by the gain. -/
module

public import proofs.«01_k».proof.Defs
public import proofs.«01_k».proof.Proof.FinalNormValue
public import proofs.«01_k».proof.Proof.FinalRefValue
public import proofs.«01_k».proof.Proof.Gen.FinalReferenceIdeal

@[expose] public section

noncomputable section

namespace Cert.FinalAlgebraic

open Idealize.ShloMosaic Idealize.SL.Sem

/-- The reference's result, of arguments that agree with the call's. -/
theorem outV_eq_out [Cert.FinalReferenceIdeal.Facts]
    (m : (ℓ : Loc Cert.FinalNormIdeal.nD Cert.FinalNormIdeal.τ Cert.FinalNormIdeal.sig) → Buf (Elt Ideal) ℓ)
    (m' : (ℓ : Loc Cert.FinalReferenceIdeal.nD Cert.FinalReferenceIdeal.τ Cert.FinalReferenceIdeal.sig) → Buf (Elt Ideal) ℓ) (c : Dev Cert.FinalNormIdeal.nD)
    (h0 : m' ((c.tc : Thread Cert.FinalReferenceIdeal.nD Cert.FinalReferenceIdeal.τ).loc Cert.FinalReferenceIdeal.main_arg0) = m ((c.tc : Thread Cert.FinalNormIdeal.nD Cert.FinalNormIdeal.τ).loc Cert.FinalNormIdeal.main_arg0))
    (h1 : m' ((c.tc : Thread Cert.FinalReferenceIdeal.nD Cert.FinalReferenceIdeal.τ).loc Cert.FinalReferenceIdeal.main_arg1) = m ((c.tc : Thread Cert.FinalNormIdeal.nD Cert.FinalNormIdeal.τ).loc Cert.FinalNormIdeal.main_arg1)) :
    Cert.FinalReferenceIdeal.RefValue.outV
      (m' ((c.tc : Thread Cert.FinalReferenceIdeal.nD Cert.FinalReferenceIdeal.τ).loc Cert.FinalReferenceIdeal.main_arg0))
      (m' ((c.tc : Thread Cert.FinalReferenceIdeal.nD Cert.FinalReferenceIdeal.τ).loc Cert.FinalReferenceIdeal.main_arg1))
      = Cert.FinalNormIdeal.OutValue.out m c := by
  rw [h0, h1]
  funext i
  rw [eq_ix2 (n0 := 4096) (n1 := 1024) i]
  exact Cert.FinalReferenceIdeal.RefValue.outV_apply _ _ _ _

theorem algebraic [Cert.FinalNormIdeal.Facts] [Cert.FinalReferenceIdeal.Facts] : Cert.algebraic_FinalNormIdeal_FinalReferenceIdeal :=
  fun m ρ m' ρ' _ hag => ⟨fun c => Cert.FinalNormIdeal.OutValue.out m c, Cert.FinalNormIdeal.OutValue.run m ρ,
    (θ_run Cert.FinalReferenceIdeal.defs _ _).mono
      (fun _ h c => ⟨(h c).1.trans (outV_eq_out m m' c (hag c).1 (hag c).2), (h c).2⟩)
      (Cert.FinalReferenceIdeal.Value.run m' ρ')⟩

end Cert.FinalAlgebraic

end
-- ==== Proof.lean ====
/- The certificate's assembly. -/
module

public import proofs.«01_k».proof.Defs
public import proofs.«01_k».proof.Proof.KernelLaunch
public import proofs.«01_k».proof.Proof.KernelIdealLaunch
public import proofs.«01_k».proof.Proof.InProjLaunch
public import proofs.«01_k».proof.Proof.InProjIdealLaunch
public import proofs.«01_k».proof.Proof.InProjAlgebraic
public import proofs.«01_k».proof.Proof.Gen.ReferenceIdeal
public import proofs.«01_k».proof.Proof.Gen.ReferenceIdeal.Run
public import proofs.«01_k».proof.Proof.MergeRouteLaunch
public import proofs.«01_k».proof.Proof.MergeRouteIdealLaunch
public import proofs.«01_k».proof.Proof.MergeAlgebraic
public import proofs.«01_k».proof.Proof.Gen.MergeReferenceIdeal
public import proofs.«01_k».proof.Proof.Gen.MergeReferenceIdeal.Run
public import proofs.«01_k».proof.Proof.Gen.FinalNorm.Frame
public import proofs.«01_k».proof.Proof.FinalAlgebraic
public import proofs.«01_k».proof.Proof.Gen.FinalReferenceIdeal
public import proofs.«01_k».proof.Proof.Gen.FinalReferenceIdeal.Run
public import Idealize.ShloMosaic.Adequacy
public import Idealize.ShloMosaic.Lib.Bf16Pair
public import Idealize.ShloMosaic.Lib.Bf16PairInverse
public import Idealize.ShloMosaic.Init

@[expose] public section

noncomputable section

namespace Cert.Proof

open Idealize.ShloMosaic Idealize.SL.Sem

/-- The idealization of the merge keeps its packed pairs: a word of two halves reads back as its halves, in the array, in the
    block, at a load or store, and where the word is put together. -/
theorem preserves_merge : Cert.preserves_MergeRoute_MergeRouteIdeal :=
  open Cert.MergeRouteIdeal IdealRules in
  ⟨bf16_pair.bufferStatement S4096x2x512 S4096x1x512, bf16_pair.bufferStatement S256x2x512 S256x1x512,
    bf16_pair.statement S256x2x512 S256x1x512, bf16_pack.statement S256x512⟩

theorem claim : Cert.Claim :=
  ⟨Cert.InProj.Gen.facts, Cert.InProjIdeal.Gen.facts, Cert.ReferenceIdeal.Gen.facts, Cert.Kernel.Gen.facts, Cert.KernelIdeal.Gen.facts,
    Cert.MergeRoute.Gen.facts, Cert.MergeRouteIdeal.Gen.facts, Cert.MergeReferenceIdeal.Gen.facts,
    Cert.FinalNorm.Gen.facts, Cert.FinalNormIdeal.Gen.facts, Cert.FinalReferenceIdeal.Gen.facts,
    fun m ρ _ => Cert.InProj.Launch.frame m ρ,
    fun m ρ _ => Cert.InProjIdeal.Launch.frame m ρ,
    fun m ρ _ => (θ_run Cert.ReferenceIdeal.defs _ _).mono (fun r h => ⟨fun c => (h c).2, sem_eq_zero_of_no_sems (by decide) r.2⟩) (Cert.ReferenceIdeal.Value.run m ρ),
    fun m ρ _ => Cert.Kernel.Launch.frame m ρ,
    fun m ρ _ => Cert.KernelIdeal.Launch.frame m ρ,
    fun m ρ _ => Cert.MergeRoute.Launch.frame m ρ,
    fun m ρ _ => Cert.MergeRouteIdeal.Launch.frame m ρ,
    fun m ρ _ => (θ_run Cert.MergeReferenceIdeal.defs _ _).mono (fun r h => ⟨fun c => (h c).2, sem_eq_zero_of_no_sems (by decide) r.2⟩)
      (Cert.MergeReferenceIdeal.Value.run m ρ),
    fun m ρ _ => Cert.FinalNorm.Gen.frame m ρ,
    fun m ρ _ => Cert.FinalNormIdeal.Gen.frame m ρ,
    fun m ρ _ => (θ_run Cert.FinalReferenceIdeal.defs _ _).mono (fun r h => ⟨fun c => (h c).2, sem_eq_zero_of_no_sems (by decide) r.2⟩)
      (Cert.FinalReferenceIdeal.Value.run m ρ),
    trivial, Cert.InProjAlgebraic.algebraic, trivial, preserves_merge, Cert.MergeAlgebraic.algebraic,
    trivial, Cert.FinalAlgebraic.algebraic⟩

end Cert.Proof

end
